-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : FVec F S2x256x4x64 .bf16 := Host.absf main_arg2
  let main_cst_2 : FVec F S_ .bf16 := constant S_ .bf16 0x7F80#16
  let main_v9 : FVec F S2x256x4x64 .bf16 := broadcastInDim S2x256x4x64 ![] bcast_S_S2x256x4x64 main_cst_2
  let main_v10 : IVec S2x256x4x64 1 := cmpf .olt main_v8 main_v9
  let main_c_3 : IVec S_ 1 := constantI S_ 1 1#1
  let main_v11 : IVec S_ 1 := (fun x v => Host.reduce IntOp.andi x v reducesTo_S2x256x4x64_S_d0_1_2_3 h_S_) main_v10 main_c_3
  let main_v12 : IVec S_ 1 := andi main_v3 main_v7
  let main_v13 : IVec S_ 1 := andi main_v12 main_v11
  main_v13
-- ==== Pre_finite_scores_ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x256x512 .bf16) (main_arg1 : FVec F S512x256 .bf16) (main_arg2 : FVec F S2x2048x4x64 .bf16) (main_arg3 : FVec F S2x2048x4x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : FVec F S2x2048x4x64 .bf16 := Host.absf main_arg2
  let main_cst_2 : FVec F S_ .bf16 := constant S_ .bf16 0x7F80#16
  let main_v9 : FVec F S2x2048x4x64 .bf16 := broadcastInDim S2x2048x4x64 ![] bcast_S_S2x2048x4x64 main_cst_2
  let main_v10 : IVec S2x2048x4x64 1 := cmpf .olt main_v8 main_v9
  let main_c_3 : IVec S_ 1 := constantI S_ 1 1#1
  let main_v11 : IVec S_ 1 := (fun x v => Host.reduce IntOp.andi x v reducesTo_S2x2048x4x64_S_d0_1_2_3 h_S_) main_v10 main_c_3
  let main_v12 : IVec S_ 1 := andi main_v3 main_v7
  let main_v13 : IVec S_ 1 := andi main_v12 main_v11
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S4x256x4x64 : Shape := ⟨4, ![4, 256, 4, 64]⟩
abbrev S2x256x256 : Shape := ⟨3, ![2, 256, 256]⟩
abbrev S2x4x256x256 : Shape := ⟨4, ![2, 4, 256, 256]⟩
abbrev S3x4 : Shape := ⟨2, ![3, 4]⟩
abbrev S4 : Shape := ⟨1, ![4]⟩
abbrev S_ : Shape := ⟨0, ![]⟩
abbrev S1x256x4x64 : Shape := ⟨4, ![1, 256, 4, 64]⟩
abbrev S256x4x64 : Shape := ⟨3, ![256, 4, 64]⟩
abbrev S1x1 : Shape := ⟨2, ![1, 1]⟩
abbrev S1 : Shape := ⟨1, ![1]⟩
abbrev S1x256x512 : Shape := ⟨3, ![1, 256, 512]⟩
abbrev S256x256 : Shape := ⟨2, ![256, 256]⟩
abbrev S1x256x256 : Shape := ⟨3, ![1, 256, 256]⟩
abbrev S1x256x64 : Shape := ⟨3, ![1, 256, 64]⟩
abbrev S256x64 : Shape := ⟨2, ![256, 64]⟩
abbrev S1x256x1x64 : Shape := ⟨4, ![1, 256, 1, 64]⟩
abbrev S256 : Shape := ⟨1, ![256]⟩
abbrev S256x1 : Shape := ⟨2, ![256, 1]⟩
abbrev S1x1x256x256 : Shape := ⟨4, ![1, 1, 256, 256]⟩

abbrev nBuf : Space → Nat
  | .hbm => 6
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S4x256x4x64, .bf16⟩
  | .local _ .vmem, ⟨7, _⟩ => ⟨S2x256x256, .bf16⟩
  | .local _ .vmem, ⟨8, _⟩ => ⟨S2x4x256x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 2 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v11 : BitVec 1 := Scalar.cmpi .eq v2 c0_i32
  let v12 : BitVec 32 := Scalar.extui v11
  let c0_i32_0 : BitVec 32 := 0#32
  let v13 : BitVec 1 := Scalar.cmpi .ne v12 c0_i32_0
  v13

def k0_dev1 : Nat :=
  let c0_i32_230 : BitVec 32 := 0#32
  let c1_i32_228 : BitVec 32 := 1#32
  let c1_i32_229 : BitVec 32 := 1#32
  let v301 : BitVec 32 := Scalar.muli c1_i32_228 c1_i32_229
  let v302 : BitVec 32 := Scalar.addi c0_i32_230 v301
  v302.toNat
def k0_dev2 : Nat :=
  let c0_i32_234 : BitVec 32 := 0#32
  let c3_i32_232 : BitVec 32 := 3#32
  let c1_i32_233 : BitVec 32 := 1#32
  let v303 : BitVec 32 := Scalar.muli c3_i32_232 c1_i32_233
  let v304 : BitVec 32 := Scalar.addi c0_i32_234 v303
  v304.toNat
def k0_dev3 : Nat :=
  let c0_i32_238 : BitVec 32 := 0#32
  let c4_i32_236 : BitVec 32 := 4#32
  let c1_i32_237 : BitVec 32 := 1#32
  let v305 : BitVec 32 := Scalar.muli c4_i32_236 c1_i32_237
  let v306 : BitVec 32 := Scalar.addi c0_i32_238 v305
  v306.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v14 : BitVec 1 := Scalar.cmpi .eq v2 c1_i32_1
  let v15 : BitVec 32 := Scalar.extui v14
  let c0_i32_2 : BitVec 32 := 0#32
  let v16 : BitVec 1 := Scalar.cmpi .ne v15 c0_i32_2
  v16

def k0_dev4 : Nat :=
  let c0_i32_230 : BitVec 32 := 0#32
  let c0_i32_228 : BitVec 32 := 0#32
  let c1_i32_229 : BitVec 32 := 1#32
  let v301 : BitVec 32 := Scalar.muli c0_i32_228 c1_i32_229
  let v302 : BitVec 32 := Scalar.addi c0_i32_230 v301
  v302.toNat
def k0_dev5 : Nat :=
  let c0_i32_234 : BitVec 32 := 0#32
  let c2_i32_232 : BitVec 32 := 2#32
  let c1_i32_233 : BitVec 32 := 1#32
  let v303 : BitVec 32 := Scalar.muli c2_i32_232 c1_i32_233
  let v304 : BitVec 32 := Scalar.addi c0_i32_234 v303
  v304.toNat
def k0_dev6 : Nat :=
  let c0_i32_238 : BitVec 32 := 0#32
  let c5_i32_236 : BitVec 32 := 5#32
  let c1_i32_237 : BitVec 32 := 1#32
  let v305 : BitVec 32 := Scalar.muli c5_i32_236 c1_i32_237
  let v306 : BitVec 32 := Scalar.addi c0_i32_238 v305
  v306.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3 : BitVec 32 := 2#32
  let v17 : BitVec 1 := Scalar.cmpi .eq v2 c2_i32_3
  let v18 : BitVec 32 := Scalar.extui v17
  let c0_i32_4 : BitVec 32 := 0#32
  let v19 : BitVec 1 := Scalar.cmpi .ne v18 c0_i32_4
  v19

def k0_dev7 : Nat :=
  let c0_i32_230 : BitVec 32 := 0#32
  let c1_i32_228 : BitVec 32 := 1#32
  let c1_i32_229 : BitVec 32 := 1#32
  let v301 : BitVec 32 := Scalar.muli c1_i32_228 c1_i32_229
  let v302 : BitVec 32 := Scalar.addi c0_i32_230 v301
  v302.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v20 : BitVec 1 := Scalar.cmpi .eq v2 c3_i32
  let v21 : BitVec 32 := Scalar.extui v20
  let c0_i32_5 : BitVec 32 := 0#32
  let v22 : BitVec 1 := Scalar.cmpi .ne v21 c0_i32_5
  v22

def k0_dev8 : Nat :=
  let c0_i32_230 : BitVec 32 := 0#32
  let c0_i32_228 : BitVec 32 := 0#32
  let c1_i32_229 : BitVec 32 := 1#32
  let v301 : BitVec 32 := Scalar.muli c0_i32_228 c1_i32_229
  let v302 : BitVec 32 := Scalar.addi c0_i32_230 v301
  v302.toNat
def k0_dev9 : Nat :=
  let c0_i32_234 : BitVec 32 := 0#32
  let c7_i32_232 : BitVec 32 := 7#32
  let c1_i32_233 : BitVec 32 := 1#32
  let v303 : BitVec 32 := Scalar.muli c7_i32_232 c1_i32_233
  let v304 : BitVec 32 := Scalar.addi c0_i32_234 v303
  v304.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v23 : BitVec 1 := Scalar.cmpi .eq v2 c4_i32
  let v24 : BitVec 32 := Scalar.extui v23
  let c0_i32_6 : BitVec 32 := 0#32
  let v25 : BitVec 1 := Scalar.cmpi .ne v24 c0_i32_6
  v25

def k0_dev10 : Nat :=
  let c0_i32_230 : BitVec 32 := 0#32
  let c0_i32_228 : BitVec 32 := 0#32
  let c1_i32_229 : BitVec 32 := 1#32
  let v301 : BitVec 32 := Scalar.muli c0_i32_228 c1_i32_229
  let v302 : BitVec 32 := Scalar.addi c0_i32_230 v301
  v302.toNat
def k0_dev11 : Nat :=
  let c0_i32_234 : BitVec 32 := 0#32
  let c6_i32_232 : BitVec 32 := 6#32
  let c1_i32_233 : BitVec 32 := 1#32
  let v303 : BitVec 32 := Scalar.muli c6_i32_232 c1_i32_233
  let v304 : BitVec 32 := Scalar.addi c0_i32_234 v303
  v304.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_7 : BitVec 32 := 5#32
  let v26 : BitVec 1 := Scalar.cmpi .eq v2 c5_i32_7
  let v27 : BitVec 32 := Scalar.extui v26
  let c0_i32_8 : BitVec 32 := 0#32
  let v28 : BitVec 1 := Scalar.cmpi .ne v27 c0_i32_8
  v28

def k0_dev12 : Nat :=
  let c0_i32_230 : BitVec 32 := 0#32
  let c1_i32_228 : BitVec 32 := 1#32
  let c1_i32_229 : BitVec 32 := 1#32
  let v301 : BitVec 32 := Scalar.muli c1_i32_228 c1_i32_229
  let v302 : BitVec 32 := Scalar.addi c0_i32_230 v301
  v302.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_9 : BitVec 32 := 6#32
  let v29 : BitVec 1 := Scalar.cmpi .eq v2 c6_i32_9
  let v30 : BitVec 32 := Scalar.extui v29
  let c0_i32_10 : BitVec 32 := 0#32
  let v31 : BitVec 1 := Scalar.cmpi .ne v30 c0_i32_10
  v31

def k0_dev13 : Nat :=
  let c0_i32_230 : BitVec 32 := 0#32
  let c4_i32_228 : BitVec 32 := 4#32
  let c1_i32_229 : BitVec 32 := 1#32
  let v301 : BitVec 32 := Scalar.muli c4_i32_228 c1_i32_229
  let v302 : BitVec 32 := Scalar.addi c0_i32_230 v301
  v302.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_11 : BitVec 32 := 7#32
  let v32 : BitVec 1 := Scalar.cmpi .eq v2 c7_i32_11
  let v33 : BitVec 32 := Scalar.extui v32
  let c0_i32_12 : BitVec 32 := 0#32
  let v34 : BitVec 1 := Scalar.cmpi .ne v33 c0_i32_12
  v34

def k0_dev14 : Nat :=
  let c0_i32_230 : BitVec 32 := 0#32
  let c3_i32_228 : BitVec 32 := 3#32
  let c1_i32_229 : BitVec 32 := 1#32
  let v301 : BitVec 32 := Scalar.muli c3_i32_228 c1_i32_229
  let v302 : BitVec 32 := Scalar.addi c0_i32_230 v301
  v302.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_13 : BitVec 32 := 0#32
  let v35 : BitVec 1 := Scalar.cmpi .eq v2 c0_i32_13
  let v36 : BitVec 32 := Scalar.extui v35
  let c0_i32_14 : BitVec 32 := 0#32
  let v37 : BitVec 1 := Scalar.cmpi .ne v36 c0_i32_14
  v37

def k0_dev15 : Nat :=
  let c0_i32_242 : BitVec 32 := 0#32
  let c1_i32_240 : BitVec 32 := 1#32
  let c1_i32_241 : BitVec 32 := 1#32
  let v306 : BitVec 32 := Scalar.muli c1_i32_240 c1_i32_241
  let v307 : BitVec 32 := Scalar.addi c0_i32_242 v306
  v307.toNat
def k0_dev16 : Nat :=
  let c0_i32_256 : BitVec 32 := 0#32
  let c3_i32_254 : BitVec 32 := 3#32
  let c1_i32_255 : BitVec 32 := 1#32
  let v316 : BitVec 32 := Scalar.muli c3_i32_254 c1_i32_255
  let v317 : BitVec 32 := Scalar.addi c0_i32_256 v316
  v317.toNat
def k0_dev17 : Nat :=
  let c0_i32_270 : BitVec 32 := 0#32
  let c4_i32_268 : BitVec 32 := 4#32
  let c1_i32_269 : BitVec 32 := 1#32
  let v326 : BitVec 32 := Scalar.muli c4_i32_268 c1_i32_269
  let v327 : BitVec 32 := Scalar.addi c0_i32_270 v326
  v327.toNat
def k0_dev18 : Nat :=
  let c0_i32_292 : BitVec 32 := 0#32
  let c1_i32_290 : BitVec 32 := 1#32
  let c1_i32_291 : BitVec 32 := 1#32
  let v341 : BitVec 32 := Scalar.muli c1_i32_290 c1_i32_291
  let v342 : BitVec 32 := Scalar.addi c0_i32_292 v341
  v342.toNat
def k0_dev19 : Nat :=
  let c0_i32_306 : BitVec 32 := 0#32
  let c3_i32_304 : BitVec 32 := 3#32
  let c1_i32_305 : BitVec 32 := 1#32
  let v351 : BitVec 32 := Scalar.muli c3_i32_304 c1_i32_305
  let v352 : BitVec 32 := Scalar.addi c0_i32_306 v351
  v352.toNat
def k0_dev20 : Nat :=
  let c0_i32_320 : BitVec 32 := 0#32
  let c4_i32_318 : BitVec 32 := 4#32
  let c1_i32_319 : BitVec 32 := 1#32
  let v361 : BitVec 32 := Scalar.muli c4_i32_318 c1_i32_319
  let v362 : BitVec 32 := Scalar.addi c0_i32_320 v361
  v362.toNat
def k0_dev21 : Nat :=
  let c0_i32_342 : BitVec 32 := 0#32
  let c1_i32_340 : BitVec 32 := 1#32
  let c1_i32_341 : BitVec 32 := 1#32
  let v376 : BitVec 32 := Scalar.muli c1_i32_340 c1_i32_341
  let v377 : BitVec 32 := Scalar.addi c0_i32_342 v376
  v377.toNat
def k0_dev22 : Nat :=
  let c0_i32_356 : BitVec 32 := 0#32
  let c3_i32_354 : BitVec 32 := 3#32
  let c1_i32_355 : BitVec 32 := 1#32
  let v386 : BitVec 32 := Scalar.muli c3_i32_354 c1_i32_355
  let v387 : BitVec 32 := Scalar.addi c0_i32_356 v386
  v387.toNat
def k0_dev23 : Nat :=
  let c0_i32_370 : BitVec 32 := 0#32
  let c4_i32_368 : BitVec 32 := 4#32
  let c1_i32_369 : BitVec 32 := 1#32
  let v396 : BitVec 32 := Scalar.muli c4_i32_368 c1_i32_369
  let v397 : BitVec 32 := Scalar.addi c0_i32_370 v396
  v397.toNat
def k0_dev24 : Nat :=
  let c0_i32_392 : BitVec 32 := 0#32
  let c1_i32_390 : BitVec 32 := 1#32
  let c1_i32_391 : BitVec 32 := 1#32
  let v411 : BitVec 32 := Scalar.muli c1_i32_390 c1_i32_391
  let v412 : BitVec 32 := Scalar.addi c0_i32_392 v411
  v412.toNat
def k0_dev25 : Nat :=
  let c0_i32_406 : BitVec 32 := 0#32
  let c3_i32_404 : BitVec 32 := 3#32
  let c1_i32_405 : BitVec 32 := 1#32
  let v421 : BitVec 32 := Scalar.muli c3_i32_404 c1_i32_405
  let v422 : BitVec 32 := Scalar.addi c0_i32_406 v421
  v422.toNat
def k0_dev26 : Nat :=
  let c0_i32_420 : BitVec 32 := 0#32
  let c4_i32_418 : BitVec 32 := 4#32
  let c1_i32_419 : BitVec 32 := 1#32
  let v431 : BitVec 32 := Scalar.muli c4_i32_418 c1_i32_419
  let v432 : BitVec 32 := Scalar.addi c0_i32_420 v431
  v432.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v40 : BitVec 1 := Scalar.cmpi .eq v2 c1_i32_16
  let v41 : BitVec 32 := Scalar.extui v40
  let c0_i32_17 : BitVec 32 := 0#32
  let v42 : BitVec 1 := Scalar.cmpi .ne v41 c0_i32_17
  v42

def k0_dev27 : Nat :=
  let c0_i32_248 : BitVec 32 := 0#32
  let c2_i32_246 : BitVec 32 := 2#32
  let c1_i32_247 : BitVec 32 := 1#32
  let v309 : BitVec 32 := Scalar.muli c2_i32_246 c1_i32_247
  let v310 : BitVec 32 := Scalar.addi c0_i32_248 v309
  v310.toNat
def k0_dev28 : Nat :=
  let c0_i32_262 : BitVec 32 := 0#32
  let c5_i32_260 : BitVec 32 := 5#32
  let c1_i32_261 : BitVec 32 := 1#32
  let v319 : BitVec 32 := Scalar.muli c5_i32_260 c1_i32_261
  let v320 : BitVec 32 := Scalar.addi c0_i32_262 v319
  v320.toNat
def k0_dev29 : Nat :=
  let c0_i32_290 : BitVec 32 := 0#32
  let c2_i32_288 : BitVec 32 := 2#32
  let c1_i32_289 : BitVec 32 := 1#32
  let v337 : BitVec 32 := Scalar.muli c2_i32_288 c1_i32_289
  let v338 : BitVec 32 := Scalar.addi c0_i32_290 v337
  v338.toNat
def k0_dev30 : Nat :=
  let c0_i32_304 : BitVec 32 := 0#32
  let c5_i32_302 : BitVec 32 := 5#32
  let c1_i32_303 : BitVec 32 := 1#32
  let v347 : BitVec 32 := Scalar.muli c5_i32_302 c1_i32_303
  let v348 : BitVec 32 := Scalar.addi c0_i32_304 v347
  v348.toNat
def k0_dev31 : Nat :=
  let c0_i32_332 : BitVec 32 := 0#32
  let c2_i32_330 : BitVec 32 := 2#32
  let c1_i32_331 : BitVec 32 := 1#32
  let v365 : BitVec 32 := Scalar.muli c2_i32_330 c1_i32_331
  let v366 : BitVec 32 := Scalar.addi c0_i32_332 v365
  v366.toNat
def k0_dev32 : Nat :=
  let c0_i32_346 : BitVec 32 := 0#32
  let c5_i32_344 : BitVec 32 := 5#32
  let c1_i32_345 : BitVec 32 := 1#32
  let v375 : BitVec 32 := Scalar.muli c5_i32_344 c1_i32_345
  let v376 : BitVec 32 := Scalar.addi c0_i32_346 v375
  v376.toNat
def k0_dev33 : Nat :=
  let c0_i32_374 : BitVec 32 := 0#32
  let c2_i32_372 : BitVec 32 := 2#32
  let c1_i32_373 : BitVec 32 := 1#32
  let v393 : BitVec 32 := Scalar.muli c2_i32_372 c1_i32_373
  let v394 : BitVec 32 := Scalar.addi c0_i32_374 v393
  v394.toNat
def k0_dev34 : Nat :=
  let c0_i32_388 : BitVec 32 := 0#32
  let c5_i32_386 : BitVec 32 := 5#32
  let c1_i32_387 : BitVec 32 := 1#32
  let v403 : BitVec 32 := Scalar.muli c5_i32_386 c1_i32_387
  let v404 : BitVec 32 := Scalar.addi c0_i32_388 v403
  v404.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_18 : BitVec 32 := 3#32
  let v43 : BitVec 1 := Scalar.cmpi .eq v2 c3_i32_18
  let v44 : BitVec 32 := Scalar.extui v43
  let c0_i32_19 : BitVec 32 := 0#32
  let v45 : BitVec 1 := Scalar.cmpi .ne v44 c0_i32_19
  v45

def k0_dev35 : Nat :=
  let c0_i32_248 : BitVec 32 := 0#32
  let c7_i32_246 : BitVec 32 := 7#32
  let c1_i32_247 : BitVec 32 := 1#32
  let v309 : BitVec 32 := Scalar.muli c7_i32_246 c1_i32_247
  let v310 : BitVec 32 := Scalar.addi c0_i32_248 v309
  v310.toNat
def k0_dev36 : Nat :=
  let c0_i32_276 : BitVec 32 := 0#32
  let c7_i32_274 : BitVec 32 := 7#32
  let c1_i32_275 : BitVec 32 := 1#32
  let v327 : BitVec 32 := Scalar.muli c7_i32_274 c1_i32_275
  let v328 : BitVec 32 := Scalar.addi c0_i32_276 v327
  v328.toNat
def k0_dev37 : Nat :=
  let c0_i32_304 : BitVec 32 := 0#32
  let c7_i32_302 : BitVec 32 := 7#32
  let c1_i32_303 : BitVec 32 := 1#32
  let v345 : BitVec 32 := Scalar.muli c7_i32_302 c1_i32_303
  let v346 : BitVec 32 := Scalar.addi c0_i32_304 v345
  v346.toNat
def k0_dev38 : Nat :=
  let c0_i32_332 : BitVec 32 := 0#32
  let c7_i32_330 : BitVec 32 := 7#32
  let c1_i32_331 : BitVec 32 := 1#32
  let v363 : BitVec 32 := Scalar.muli c7_i32_330 c1_i32_331
  let v364 : BitVec 32 := Scalar.addi c0_i32_332 v363
  v364.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_20 : BitVec 32 := 4#32
  let v46 : BitVec 1 := Scalar.cmpi .eq v2 c4_i32_20
  let v47 : BitVec 32 := Scalar.extui v46
  let c0_i32_21 : BitVec 32 := 0#32
  let v48 : BitVec 1 := Scalar.cmpi .ne v47 c0_i32_21
  v48

def k0_dev39 : Nat :=
  let c0_i32_248 : BitVec 32 := 0#32
  let c6_i32_246 : BitVec 32 := 6#32
  let c1_i32_247 : BitVec 32 := 1#32
  let v309 : BitVec 32 := Scalar.muli c6_i32_246 c1_i32_247
  let v310 : BitVec 32 := Scalar.addi c0_i32_248 v309
  v310.toNat
def k0_dev40 : Nat :=
  let c0_i32_276 : BitVec 32 := 0#32
  let c6_i32_274 : BitVec 32 := 6#32
  let c1_i32_275 : BitVec 32 := 1#32
  let v327 : BitVec 32 := Scalar.muli c6_i32_274 c1_i32_275
  let v328 : BitVec 32 := Scalar.addi c0_i32_276 v327
  v328.toNat
def k0_dev41 : Nat :=
  let c0_i32_304 : BitVec 32 := 0#32
  let c6_i32_302 : BitVec 32 := 6#32
  let c1_i32_303 : BitVec 32 := 1#32
  let v345 : BitVec 32 := Scalar.muli c6_i32_302 c1_i32_303
  let v346 : BitVec 32 := Scalar.addi c0_i32_304 v345
  v346.toNat
def k0_dev42 : Nat :=
  let c0_i32_332 : BitVec 32 := 0#32
  let c6_i32_330 : BitVec 32 := 6#32
  let c1_i32_331 : BitVec 32 := 1#32
  let v363 : BitVec 32 := Scalar.muli c6_i32_330 c1_i32_331
  let v364 : BitVec 32 := Scalar.addi c0_i32_332 v363
  v364.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_227_r0 : BitVec 32 := 0#32
  let v302_r0 : BitVec 1 := Scalar.cmpi .eq v2 c0_i32_227_r0
  let v303_r0 : BitVec 32 := Scalar.extui v302_r0
  let c0_i32_228_r0 : BitVec 32 := 0#32
  let v304_r0 : BitVec 1 := Scalar.cmpi .ne v303_r0 c0_i32_228_r0
  v304_r0

def k0_dev43 : Nat :=
  let c0_i32_246_r0 : BitVec 32 := 0#32
  let c1_i32_244_r0 : BitVec 32 := 1#32
  let c1_i32_245_r0 : BitVec 32 := 1#32
  let v326_r0 : BitVec 32 := Scalar.muli c1_i32_244_r0 c1_i32_245_r0
  let v327_r0 : BitVec 32 := Scalar.addi c0_i32_246_r0 v326_r0
  v327_r0.toNat
def k0_dev44 : Nat :=
  let c0_i32_250_r0 : BitVec 32 := 0#32
  let c3_i32_248_r0 : BitVec 32 := 3#32
  let c1_i32_249_r0 : BitVec 32 := 1#32
  let v328_r0 : BitVec 32 := Scalar.muli c3_i32_248_r0 c1_i32_249_r0
  let v329_r0 : BitVec 32 := Scalar.addi c0_i32_250_r0 v328_r0
  v329_r0.toNat
def k0_dev45 : Nat :=
  let c0_i32_254_r0 : BitVec 32 := 0#32
  let c4_i32_252_r0 : BitVec 32 := 4#32
  let c1_i32_253_r0 : BitVec 32 := 1#32
  let v330_r0 : BitVec 32 := Scalar.muli c4_i32_252_r0 c1_i32_253_r0
  let v331_r0 : BitVec 32 := Scalar.addi c0_i32_254_r0 v330_r0
  v331_r0.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_229_r0 : BitVec 32 := 1#32
  let v305_r0 : BitVec 1 := Scalar.cmpi .eq v2 c1_i32_229_r0
  let v306_r0 : BitVec 32 := Scalar.extui v305_r0
  let c0_i32_230_r0 : BitVec 32 := 0#32
  let v307_r0 : BitVec 1 := Scalar.cmpi .ne v306_r0 c0_i32_230_r0
  v307_r0

def k0_dev46 : Nat :=
  let c0_i32_246_r0 : BitVec 32 := 0#32
  let c0_i32_244_r0 : BitVec 32 := 0#32
  let c1_i32_245_r0 : BitVec 32 := 1#32
  let v326_r0 : BitVec 32 := Scalar.muli c0_i32_244_r0 c1_i32_245_r0
  let v327_r0 : BitVec 32 := Scalar.addi c0_i32_246_r0 v326_r0
  v327_r0.toNat
def k0_dev47 : Nat :=
  let c0_i32_250_r0 : BitVec 32 := 0#32
  let c2_i32_248_r0 : BitVec 32 := 2#32
  let c1_i32_249_r0 : BitVec 32 := 1#32
  let v328_r0 : BitVec 32 := Scalar.muli c2_i32_248_r0 c1_i32_249_r0
  let v329_r0 : BitVec 32 := Scalar.addi c0_i32_250_r0 v328_r0
  v329_r0.toNat
def k0_dev48 : Nat :=
  let c0_i32_254_r0 : BitVec 32 := 0#32
  let c5_i32_252_r0 : BitVec 32 := 5#32
  let c1_i32_253_r0 : BitVec 32 := 1#32
  let v330_r0 : BitVec 32 := Scalar.muli c5_i32_252_r0 c1_i32_253_r0
  let v331_r0 : BitVec 32 := Scalar.addi c0_i32_254_r0 v330_r0
  v331_r0.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_231_r0 : BitVec 32 := 2#32
  let v308_r0 : BitVec 1 := Scalar.cmpi .eq v2 c2_i32_231_r0
  let v309_r0 : BitVec 32 := Scalar.extui v308_r0
  let c0_i32_232_r0 : BitVec 32 := 0#32
  let v310_r0 : BitVec 1 := Scalar.cmpi .ne v309_r0 c0_i32_232_r0
  v310_r0

def k0_dev49 : Nat :=
  let c0_i32_246_r0 : BitVec 32 := 0#32
  let c1_i32_244_r0 : BitVec 32 := 1#32
  let c1_i32_245_r0 : BitVec 32 := 1#32
  let v326_r0 : BitVec 32 := Scalar.muli c1_i32_244_r0 c1_i32_245_r0
  let v327_r0 : BitVec 32 := Scalar.addi c0_i32_246_r0 v326_r0
  v327_r0.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_233_r0 : BitVec 32 := 3#32
  let v311_r0 : BitVec 1 := Scalar.cmpi .eq v2 c3_i32_233_r0
  let v312_r0 : BitVec 32 := Scalar.extui v311_r0
  let c0_i32_234_r0 : BitVec 32 := 0#32
  let v313_r0 : BitVec 1 := Scalar.cmpi .ne v312_r0 c0_i32_234_r0
  v313_r0

def k0_dev50 : Nat :=
  let c0_i32_246_r0 : BitVec 32 := 0#32
  let c0_i32_244_r0 : BitVec 32 := 0#32
  let c1_i32_245_r0 : BitVec 32 := 1#32
  let v326_r0 : BitVec 32 := Scalar.muli c0_i32_244_r0 c1_i32_245_r0
  let v327_r0 : BitVec 32 := Scalar.addi c0_i32_246_r0 v326_r0
  v327_r0.toNat
def k0_dev51 : Nat :=
  let c0_i32_250_r0 : BitVec 32 := 0#32
  let c7_i32_248_r0 : BitVec 32 := 7#32
  let c1_i32_249_r0 : BitVec 32 := 1#32
  let v328_r0 : BitVec 32 := Scalar.muli c7_i32_248_r0 c1_i32_249_r0
  let v329_r0 : BitVec 32 := Scalar.addi c0_i32_250_r0 v328_r0
  v329_r0.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_235_r0 : BitVec 32 := 4#32
  let v314_r0 : BitVec 1 := Scalar.cmpi .eq v2 c4_i32_235_r0
  let v315_r0 : BitVec 32 := Scalar.extui v314_r0
  let c0_i32_236_r0 : BitVec 32 := 0#32
  let v316_r0 : BitVec 1 := Scalar.cmpi .ne v315_r0 c0_i32_236_r0
  v316_r0

def k0_dev52 : Nat :=
  let c0_i32_246_r0 : BitVec 32 := 0#32
  let c0_i32_244_r0 : BitVec 32 := 0#32
  let c1_i32_245_r0 : BitVec 32 := 1#32
  let v326_r0 : BitVec 32 := Scalar.muli c0_i32_244_r0 c1_i32_245_r0
  let v327_r0 : BitVec 32 := Scalar.addi c0_i32_246_r0 v326_r0
  v327_r0.toNat
def k0_dev53 : Nat :=
  let c0_i32_250_r0 : BitVec 32 := 0#32
  let c6_i32_248_r0 : BitVec 32 := 6#32
  let c1_i32_249_r0 : BitVec 32 := 1#32
  let v328_r0 : BitVec 32 := Scalar.muli c6_i32_248_r0 c1_i32_249_r0
  let v329_r0 : BitVec 32 := Scalar.addi c0_i32_250_r0 v328_r0
  v329_r0.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_237_r0 : BitVec 32 := 5#32
  let v317_r0 : BitVec 1 := Scalar.cmpi .eq v2 c5_i32_237_r0
  let v318_r0 : BitVec 32 := Scalar.extui v317_r0
  let c0_i32_238_r0 : BitVec 32 := 0#32
  let v319_r0 : BitVec 1 := Scalar.cmpi .ne v318_r0 c0_i32_238_r0
  v319_r0

def k0_dev54 : Nat :=
  let c0_i32_246_r0 : BitVec 32 := 0#32
  let c1_i32_244_r0 : BitVec 32 := 1#32
  let c1_i32_245_r0 : BitVec 32 := 1#32
  let v326_r0 : BitVec 32 := Scalar.muli c1_i32_244_r0 c1_i32_245_r0
  let v327_r0 : BitVec 32 := Scalar.addi c0_i32_246_r0 v326_r0
  v327_r0.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_239_r0 : BitVec 32 := 6#32
  let v320_r0 : BitVec 1 := Scalar.cmpi .eq v2 c6_i32_239_r0
  let v321_r0 : BitVec 32 := Scalar.extui v320_r0
  let c0_i32_240_r0 : BitVec 32 := 0#32
  let v322_r0 : BitVec 1 := Scalar.cmpi .ne v321_r0 c0_i32_240_r0
  v322_r0

def k0_dev55 : Nat :=
  let c0_i32_246_r0 : BitVec 32 := 0#32
  let c4_i32_244_r0 : BitVec 32 := 4#32
  let c1_i32_245_r0 : BitVec 32 := 1#32
  let v326_r0 : BitVec 32 := Scalar.muli c4_i32_244_r0 c1_i32_245_r0
  let v327_r0 : BitVec 32 := Scalar.addi c0_i32_246_r0 v326_r0
  v327_r0.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_241_r0 : BitVec 32 := 7#32
  let v323_r0 : BitVec 1 := Scalar.cmpi .eq v2 c7_i32_241_r0
  let v324_r0 : BitVec 32 := Scalar.extui v323_r0
  let c0_i32_242_r0 : BitVec 32 := 0#32
  let v325_r0 : BitVec 1 := Scalar.cmpi .ne v324_r0 c0_i32_242_r0
  v325_r0

def k0_dev56 : Nat :=
  let c0_i32_246_r0 : BitVec 32 := 0#32
  let c3_i32_244_r0 : BitVec 32 := 3#32
  let c1_i32_245_r0 : BitVec 32 := 1#32
  let v326_r0 : BitVec 32 := Scalar.muli c3_i32_244_r0 c1_i32_245_r0
  let v327_r0 : BitVec 32 := Scalar.addi c0_i32_246_r0 v326_r0
  v327_r0.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x4x256x2048 : Shape := ⟨4, ![2, 4, 256, 2048]⟩
abbrev S1x1x256x2048 : Shape := ⟨4, ![1, 1, 256, 2048]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 94
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x256x512, .f32⟩
  | .hbm, ⟨6, _⟩ => ⟨S512x256, .f32⟩
  | .hbm, ⟨7, _⟩ => ⟨S2x2048x4x64, .f32⟩
  | .hbm, ⟨8, _⟩ => ⟨S2x2048x4x64, .f32⟩
  | .hbm, ⟨9, _⟩ => ⟨S256x512, .f32⟩
  | .hbm, ⟨10, _⟩ => ⟨S2x256x256, .f32⟩
  | .hbm, ⟨11, _⟩ => ⟨S2x256x4x64, .f32⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S256x2048, .i32⟩
  | .hbm, ⟨53, _⟩ => ⟨S256x2048, .i32⟩
  | .hbm, ⟨54, _⟩ => ⟨S256x2048, .i1⟩
  | .hbm, ⟨55, _⟩ => ⟨S2x4x256x2048, .f32⟩
  | .hbm, ⟨56, _⟩ => ⟨S_, .f32⟩
  | .hbm, ⟨57, _⟩ => ⟨S2x4x256x2048, .f32⟩
  | .hbm, ⟨58, _⟩ => ⟨S2x4x256x2048, .f32⟩
  | .hbm, ⟨59, _⟩ => ⟨S1x1x256x2048, .i1⟩
  | .hbm, ⟨60, _⟩ => ⟨S_, .f32⟩
  | .hbm, ⟨61, _⟩ => ⟨S_, .f32⟩
  | .hbm, ⟨62, _⟩ => ⟨S2x4x256x2048, .i1⟩
  | .hbm, ⟨63, _⟩ => ⟨S2x4x256x2048, .f32⟩
  | .hbm, ⟨64, _⟩ => ⟨S2x4x256x2048, .f32⟩
  | .hbm, ⟨65, _⟩ => ⟨S_, .f32⟩
  | .hbm, ⟨66, _⟩ => ⟨S2x4x256, .f32⟩
  | .hbm, ⟨67, _⟩ => ⟨S2x4x256x1, .f32⟩
  | .hbm, ⟨68, _⟩ => ⟨S2x4x256x2048, .f32⟩
  | .hbm, ⟨69, _⟩ => ⟨S2x4x256x2048, .f32⟩
  | .hbm, ⟨70, _⟩ => ⟨S2x4x256x2048, .f32⟩
  | .hbm, ⟨71, _⟩ => ⟨S_, .i1⟩
  | .hbm, ⟨72, _⟩ => ⟨S256, .i1⟩
  | .hbm, ⟨73, _⟩ => ⟨S1x1x256x1, .i1⟩
  | .hbm, ⟨74, _⟩ => ⟨S_, .f32⟩
  | .hbm, ⟨75, _⟩ => ⟨S2x4x256, .f32⟩
  | .hbm, ⟨76, _⟩ => ⟨S2x4x256x1, .f32⟩
  | .hbm, ⟨77, _⟩ => ⟨S_, .f32⟩
  | .hbm, ⟨78, _⟩ => ⟨S_, .f32⟩
  | .hbm, ⟨79, _⟩ => ⟨S2x4x256x1, .i1⟩
  | .hbm, ⟨80, _⟩ => ⟨S2x4x256x1, .f32⟩
  | .hbm, ⟨81, _⟩ => ⟨S2x4x256x1, .f32⟩
  | .hbm, ⟨82, _⟩ => ⟨S2x4x256x2048, .f32⟩
  | .hbm, ⟨83, _⟩ => ⟨S2x4x256x2048, .f32⟩
  | .hbm, ⟨84, _⟩ => ⟨S1x1x256x1, .i1⟩
  | .hbm, ⟨85, _⟩ => ⟨S_, .f32⟩
  | .hbm, ⟨86, _⟩ => ⟨S_, .f32⟩
  | .hbm, ⟨87, _⟩ => ⟨S2x4x256x2048, .i1⟩
  | .hbm, ⟨88, _⟩ => ⟨S2x4x256x2048, .f32⟩
  | .hbm, ⟨89, _⟩ => ⟨S2x4x256x2048, .f32⟩
  | .hbm, ⟨90, _⟩ => ⟨S2x4x64x256, .f32⟩
  | .hbm, ⟨91, _⟩ => ⟨S2x256x4x64, .f32⟩
  | .hbm, ⟨92, _⟩ => ⟨S2x256x256, .f32⟩
  | .hbm, ⟨93, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Tree.lean ====
/-
# The tree: devices, cells, contents, schedule

Eight devices form a tree rooted at device 0. Device 0 fills a four-chunk buffer with the keys and the values of its
block and every device hands each chunk on to its children. The kernel opens and closes with a handshake of each
device with its tree neighbours: at the opening a child also hands its parent the buffer the parent will write into.

This module fixes the tree, the eighteen semaphore cells of a device, the contents of the chunks and the schedule
every cell follows (`Lib/Rounds.lean`): who pays it, how much, and what the payment carries.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Writes

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The tree -/

/-- The tree neighbours of a device, in the order the kernel signals them: its parent first, then its children. -/
def nbL (c : Dev nD) : List (Dev nD) :=
  match c with
  | 0 => [1, 3, 4] | 1 => [0, 2, 5] | 2 => [1] | 3 => [0, 7] | 4 => [0, 6] | 5 => [1] | 6 => [4] | 7 => [3]

/-- How many children a device has. -/
def nch (c : Dev nD) : ℕ := match c with | 0 => 3 | 1 => 2 | 3 => 1 | 4 => 1 | _ => 0

/-- Child `j` of a device (meaningful for `j < nch c`). -/
def child (c : Dev nD) (j : Fin 3) : Dev nD :=
  match c with
  | 0 => (match j with | 0 => 1 | 1 => 3 | 2 => 4)
  | 1 => (match j with | 0 => 2 | _ => 5)
  | 3 => 7 | 4 => 6 | _ => 0

/-- The parent of a device (the root is listed as its own). -/
def par (c : Dev nD) : Dev nD := match c with | 2 => 1 | 5 => 1 | 6 => 4 | 7 => 3 | _ => 0

/-- How far a device is from the root. -/
def depth (c : Dev nD) : ℕ := match c with | 0 => 0 | 1 => 1 | 3 => 1 | 4 => 1 | _ => 2

/-! ## The cells -/

/-- The cells of a device by number: 0 the entry handshake, 1 the exit handshake, `2 + k` the arrival of chunk `k`,
    `6 + 4 j + k` the departure of chunk `k` to child `j`. -/
abbrev iRecv (k : Fin 4) : Fin 18 := ⟨2 + k.val, by omega⟩
abbrev iSend (j : Fin 3) (k : Fin 4) : Fin 18 := ⟨6 + 4 * j.val + k.val, by omega⟩

abbrev barS : Sem sig := (SemArray.scalar (sig.barrier 0 rfl) : Sems sig S_).sem
abbrev exitS : Sem sig := (cc0_scoped0 : Sems sig S_).sem

/-- The semaphore of a cell. -/
def csem (i : Fin 18) : SemLoc sig :=
  match i with
  | 0 => .reg barS | 1 => .reg exitS
  | 2 => .dma 18 | 3 => .dma 19 | 4 => .dma 20 | 5 => .dma 21
  | 6 => .dma 6 | 7 => .dma 7 | 8 => .dma 8 | 9 => .dma 9 | 10 => .dma 10 | 11 => .dma 11
  | 12 => .dma 12 | 13 => .dma 13 | 14 => .dma 14 | 15 => .dma 15 | 16 => .dma 16 | _ => .dma 17

theorem csem_injective : Function.Injective csem := by decide

abbrev kcell (ci : Dev nD × Fin 18) : GSem nD τ sig := ((ci.1 : Thread nD τ), csem ci.2)

theorem kcell_injective : Function.Injective kcell := by
  rintro ⟨c, k⟩ ⟨c', k'⟩ h
  have h1 : c = c' := congrArg (fun g : GSem nD τ sig => g.1.1) h
  have h2 : k = k' := csem_injective (congrArg Prod.snd h)
  subst h1; subst h2; rfl

/-- Which cell a semaphore of a thread is, if it is one. -/
def dec (g : GSem nD τ sig) : Option (Dev nD × Fin 18) :=
  open Classical in if h : ∃ ci, kcell ci = g then some h.choose else none

theorem dec_kcell (ci : Dev nD × Fin 18) : dec (kcell ci) = some ci := by
  unfold dec
  have h : ∃ ci', kcell ci' = kcell ci := ⟨ci, rfl⟩
  rw [dif_pos h, kcell_injective h.choose_spec]

theorem dec_none {g : GSem nD τ sig} (h : ∀ ci, kcell ci ≠ g) : dec g = none := by
  unfold dec; rw [dif_neg (fun ⟨ci, hc⟩ => h ci hc)]

/-! ## The memrefs and the chunks -/

abbrev xM : Memref sig .tc .vmem S2x256x512 .bf16 := Memref.whole cc0_stg0_0
abbrev wqM : Memref sig .tc .vmem S512x256 .bf16 := Memref.whole cc0_stg1_0
abbrev kM : Memref sig .tc .vmem S2x256x4x64 .bf16 := Memref.whole cc0_stg2_0
abbrev vM : Memref sig .tc .vmem S2x256x4x64 .bf16 := Memref.whole cc0_stg3_0
abbrev woM : Memref sig .tc .vmem S256x512 .bf16 := Memref.whole cc0_stg4_0
abbrev oM : Memref sig .tc .vmem S2x256x512 .f32 := Memref.whole cc0_stg5_0
abbrev kvM : Memref sig .tc .vmem S4x256x4x64 .bf16 := Memref.whole cc0_scratch0
abbrev qM : Memref sig .tc .vmem S2x256x256 .bf16 := Memref.whole cc0_scratch1
abbrev wM : Memref sig .tc .vmem S2x4x256x256 .bf16 := Memref.whole cc0_scratch2

theorem inb_kv (k : Fin 4) : ∀ a, (![k.val, 0, 0, 0] : Fin 4 → Nat) a + S1x256x4x64.size a ≤ S4x256x4x64.size a := by
  revert k; decide

/-- Chunk `k`'s rectangle of the chunk buffer, and its memref as the kernel's transfers name it. -/
abbrev rk (k : Fin 4) : Rect S4x256x4x64 := Rect.unit (s := S4x256x4x64) ![k.val, 0, 0, 0] S1x256x4x64.size (inb_kv k)
abbrev chM (k : Fin 4) : Memref sig .tc .vmem S256x4x64 .bf16 :=
  (kvM.slice (rk k) (fun _ => rfl)).squeeze S256x4x64 squeezes_S1x256x4x64_S256x4x64

/-- A chunk's credit. -/
def N : ℕ := (chM 0).view.dmaCredit
theorem N_pos : 0 < N := View.dmaCredit_pos _ (by decide)
theorem N_eq (k : Fin 4) : (chM k).view.dmaCredit = N := rfl

variable (m : (ℓ : Loc nD τ sig) → Buf (Elt F) ℓ)

/-- The blocks a device is launched with, as its staging buffers hold them. -/
def xstg (c : Dev nD) : (cc0_stg0_0 : Ref sig .tc).ty.Contents (Elt F) := (win0_0.blk (0 : Fin 1)).view.read (Elt F) (m ((c : Thread nD τ).loc main_arg0))
def wqstg (c : Dev nD) : (cc0_stg1_0 : Ref sig .tc).ty.Contents (Elt F) := (win0_1.blk (0 : Fin 1)).view.read (Elt F) (m ((c : Thread nD τ).loc main_arg1))
def kstg (c : Dev nD) : (cc0_stg2_0 : Ref sig .tc).ty.Contents (Elt F) := (win0_2.blk (0 : Fin 1)).view.read (Elt F) (m ((c : Thread nD τ).loc main_arg2))
def vstg (c : Dev nD) : (cc0_stg3_0 : Ref sig .tc).ty.Contents (Elt F) := (win0_3.blk (0 : Fin 1)).view.read (Elt F) (m ((c : Thread nD τ).loc main_arg3))
def wostg (c : Dev nD) : (cc0_stg4_0 : Ref sig .tc).ty.Contents (Elt F) := (win0_4.blk (0 : Fin 1)).view.read (Elt F) (m ((c : Thread nD τ).loc main_arg4))

abbrev rb0 : Rect S2x256x4x64 := Rect.unit (s := S2x256x4x64) ![0, 0, 0, 0] S1x256x4x64.size inb_S2x256x4x64_S1x256x4x64_0_0_0_0
abbrev rb1 : Rect S2x256x4x64 := Rect.unit (s := S2x256x4x64) ![1, 0, 0, 0] S1x256x4x64.size inb_S2x256x4x64_S1x256x4x64_1_0_0_0

/-- What the root stores into chunk `k`: the keys of batch 0 and 1, then the values. -/
def kvPay (k : Fin 4) : FVec F S1x256x4x64 .bf16 :=
  match k with
  | 0 => k0_pay1 (kM.view.readAt (Elt F) rb0.toLoadRect (kstg m 0))
  | 1 => k0_pay2 (kM.view.readAt (Elt F) rb1.toLoadRect (kstg m 0))
  | 2 => k0_pay3 (vM.view.readAt (Elt F) rb0.toLoadRect (vstg m 0))
  | 3 => k0_pay4 (vM.view.readAt (Elt F) rb1.toLoadRect (vstg m 0))

/-- The chunk buffer with chunk `k` filled (what else it holds is the root's launch contents). -/
def KV (k : Fin 4) : (cc0_scratch0 : Ref sig .tc).ty.Contents (Elt F) :=
  (kvM.access (rk k)).write (Elt F) (m (((0 : Dev nD) : Thread nD τ).loc cc0_scratch0)) (kvPay m k) Finset.univ

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The schedule -/

/-- Chunk `k` of device `c`'s buffer, at a share, at contents. -/
def chPts (c : Dev nD) (k : Fin 4) (q : PosShare TreeShare) (f : (cc0_scratch0 : Ref sig .tc).ty.Contents (Elt F)) : sProp 𝕄 :=
  (chM k).view.loc (c : Thread nD τ) ↦[(chM k).view.set]{q} f

/-- The share a device keeps of a chunk while its children's copies depart, and the share each departure borrows. -/
def shKeep : PosShare TreeShare := fullShare.left
def shSend (j : Fin 3) : PosShare TreeShare :=
  match j with | 0 => fullShare.right.left | 1 => fullShare.right.right.left | 2 => fullShare.right.right.right

/-- Device `c`'s whole chunk buffer, chunk by chunk, at any contents. -/
def kvAny (c : Dev nD) : sProp 𝕄 := bigSep Finset.univ fun k : Fin 4 => iprop(∃ f, chPts (F := F) c k fullShare f)

/-- Who pays cell `i` of device `c`: for the handshakes its neighbours, for an arrival its parent, for a departure
    itself; a cell that is not used has no payer. -/
def dut (c : Dev nD) (i : Fin 18) : Finset (Dev nD) :=
  if i.val < 2 then (nbL c).toFinset else if i.val < 6 then (if c = 0 then ∅ else {par c})
  else if (i.val - 6) / 4 < nch c then {c} else ∅

/-- What one payment amounts to. -/
def amt (i : Fin 18) : ℕ := if i.val < 2 then 1 else N
theorem amt_pos (i : Fin 18) : 0 < amt i := by unfold amt; split; exact Nat.one_pos; exact N_pos

/-- What payer `d` hands over with its payment to cell `i` of device `c`. -/
def pay (c : Dev nD) (i : Fin 18) (d : Dev nD) : sProp 𝕄 :=
  if i.val = 0 then (if d ≠ 0 ∧ par d = c then kvAny d else iprop(emp))
  else if i.val = 1 then iprop(emp)
  else if i.val < 6 then chPts c ⟨(i.val - 2) % 4, Nat.mod_lt _ (by decide)⟩ fullShare (KV m ⟨(i.val - 2) % 4, Nat.mod_lt _ (by decide)⟩)
  else chPts c ⟨(i.val - 6) % 4, Nat.mod_lt _ (by decide)⟩ (shSend ⟨(i.val - 6) / 4 % 3, Nat.mod_lt _ (by decide)⟩) (KV m ⟨(i.val - 6) % 4, Nat.mod_lt _ (by decide)⟩)

omit [FloatOps F] [Named F] in
instance chPts_storable (c : Dev nD) (k q f) : BI.Storable (upEmb : UEmb _ 𝕄) (chPts (F := F) c k q f) := by unfold chPts; infer_instance
omit [FloatOps F] [Named F] in
instance kvAny_storable (c : Dev nD) : BI.Storable (upEmb : UEmb _ 𝕄) (kvAny (F := F) c) := by unfold kvAny; infer_instance

instance pay_storable (c : Dev nD) (i d) : BI.Storable (upEmb : UEmb _ 𝕄) (pay (F := F) m c i d) := by
  unfold pay; (repeat' split) <;> infer_instance

/-- One round, round 0. -/
def treeRd : Rounds.Schedule (GSem nD τ sig) (Dev nD) 𝕄 where
  duties g r := if r = 0 then (match dec g with | some ci => dut ci.1 ci.2 | none => ∅) else ∅
  unitless _ := False
  amount g _ _ := match dec g with | some ci => amt ci.2 | none => 1
  payload g _ d := match dec g with | some ci => pay m ci.1 ci.2 d | none => iprop(emp)
  amount_pos g _ _ _ := by
    cases dec g with
    | none => exact Nat.one_pos
    | some ci => exact amt_pos ci.2

instance treeRd_payload_storable (g : GSem nD τ sig) (r : ℕ) (d : Dev nD) :
    BI.Storable (upEmb : UEmb _ 𝕄) ((treeRd (F := F) m).payload g r d) := by
  show BI.Storable upEmb (match dec g with | some ci => pay m ci.1 ci.2 d | none => iprop(emp))
  split <;> infer_instance

section Sched
variable (ci : Dev nD × Fin 18)

theorem duties_eq : (treeRd (F := F) m).duties (kcell ci) 0 = dut ci.1 ci.2 := by
  dsimp only [treeRd]; rw [dec_kcell, if_pos rfl]
theorem duties_later (g : GSem nD τ sig) : ∀ r, 1 ≤ r → (treeRd (F := F) m).duties g r = ∅ :=
  fun r hr => by dsimp only [treeRd]; rw [if_neg (fun h => by omega)]
theorem amount_eq (d : Dev nD) : (treeRd (F := F) m).amount (kcell ci) 0 d = amt ci.2 := by
  dsimp only [treeRd]; rw [dec_kcell]
theorem payload_eq (d : Dev nD) : (treeRd (F := F) m).payload (kcell ci) 0 d = pay m ci.1 ci.2 d := by
  dsimp only [treeRd]; rw [dec_kcell]
theorem expect_eq : (treeRd (F := F) m).expect (kcell ci) 0 = (dut ci.1 ci.2).card * amt ci.2 := by
  unfold Schedule.expect Schedule.amountOf
  rw [duties_eq, Finset.sum_congr rfl fun d _ => amount_eq m ci d, Finset.sum_const, smul_eq_mul]
/-- A cell nobody pays has no duty at any round. -/
theorem duties_unused (h : dut ci.1 ci.2 = ∅) : ∀ r, 0 ≤ r → (treeRd (F := F) m).duties (kcell ci) r = ∅ := by
  intro r _
  rcases Nat.eq_zero_or_pos r with rfl | hr
  · rw [duties_eq, h]
  · exact duties_later m _ r hr

end Sched

theorem dut_send (c : Dev nD) (j : Fin 3) (k : Fin 4) (h : j.val < nch c) : dut c (iSend j k) = {c} := by
  revert c j k; decide
theorem dut_send_unused (c : Dev nD) (j : Fin 3) (k : Fin 4) (h : ¬ j.val < nch c) : dut c (iSend j k) = ∅ := by
  revert c j k; decide
theorem dut_recv (c : Dev nD) (k : Fin 4) (h : c ≠ 0) : dut c (iRecv k) = {par c} := by
  revert c k; decide
theorem dut_recv_root (k : Fin 4) : dut 0 (iRecv k) = ∅ := by revert k; decide
theorem par_child (c : Dev nD) (j : Fin 3) (h : j.val < nch c) : par (child c j) = c ∧ child c j ≠ 0 := by
  revert c j; decide

theorem pay_recv (c : Dev nD) (k : Fin 4) (d : Dev nD) : pay m c (iRecv k) d = chPts c k fullShare (KV m k) := by
  fin_cases k <;> rfl
theorem pay_send (c : Dev nD) (j : Fin 3) (k : Fin 4) (d : Dev nD) : pay m c (iSend j k) d = chPts c k (shSend j) (KV m k) := by
  fin_cases k <;> fin_cases j <;> rfl
theorem amt_recv (k : Fin 4) : amt (iRecv k) = N := by unfold amt; exact if_neg (by simp; omega)
theorem amt_send (j : Fin 3) (k : Fin 4) : amt (iSend j k) = N := by unfold amt; exact if_neg (by simp; omega)

/-! ## What a device owes; the levels -/

/-- A list of payments to make, as the tally a device owes: the head is paid first. -/
def Osum : List (Dev nD × Fin 18) → CellTallies nD τ sig Unit
  | [] => 0
  | ci :: L => Osum L + tallyAt (kcell ci) () (amt ci.2)

/-- The transfers of a device: chunk by chunk, to each child in turn. -/
def sendList (c : Dev nD) : List (Dev nD × Fin 18) :=
  match c with
  | 0 => [(1, 2), (3, 2), (4, 2), (1, 3), (3, 3), (4, 3), (1, 4), (3, 4), (4, 4), (1, 5), (3, 5), (4, 5)]
  | 1 => [(2, 2), (5, 2), (2, 3), (5, 3), (2, 4), (5, 4), (2, 5), (5, 5)]
  | 3 => [(7, 2), (7, 3), (7, 4), (7, 5)]
  | 4 => [(6, 2), (6, 3), (6, 4), (6, 5)]
  | _ => []

/-- The handshake payments of a device at its neighbours' cell `i`. -/
def hsList (i : Fin 18) (c : Dev nD) : List (Dev nD × Fin 18) := (nbL c).map fun n => (n, i)

/-- All a device owes at launch, in the order it pays. -/
def owedL (c : Dev nD) : List (Dev nD × Fin 18) := hsList 0 c ++ (sendList c ++ hsList 1 c)

def L (g : GSem nD τ sig) : Finset Unit := if g.1.2 = .tc then {()} else ∅

/-- Entry handshake, then arrivals by depth, then exit handshake; departures and everything else at 0. -/
def lvl (ci : Dev nD × Fin 18) : ℕ :=
  if ci.2.val = 0 then 1 else if ci.2.val = 1 then 9 else if ci.2.val < 6 then 2 + depth ci.1 else 0
def lv (g : GSem nD τ sig) (_ : Unit) : ℕ := match dec g with | some ci => lvl ci | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (ci : Dev nD × Fin 18) : lv (kcell ci) () = lvl ci := by unfold lv; rw [dec_kcell]

theorem Osum_pos {l : List (Dev nD × Fin 18)} {g : GSem nD τ sig} {u : Unit} (h : 0 < Osum l g u) : ∃ ci ∈ l, g = kcell ci := by
  induction l with
  | nil => exact absurd h (Nat.lt_irrefl 0)
  | cons ci l ih =>
    unfold Osum at h
    rw [Pi.add_apply, Finsupp.add_apply, tallyAt_apply] at h
    by_cases hg : g = kcell ci ∧ u = ()
    · exact ⟨ci, List.mem_cons_self, hg.1⟩
    · rw [if_neg hg, Nat.add_zero] at h
      obtain ⟨ci', hm, he⟩ := ih h
      exact ⟨ci', List.mem_cons_of_mem _ hm, he⟩

/-- A device may wait on a semaphore below everything it still owes. -/
theorem mayWait_of (c : Dev nD) (sm : SemLoc sig) (l : List (Dev nD × Fin 18)) (h : ∀ ci ∈ l, lv ((c : Thread nD τ), sm) () < lvl ci) :
    (levAts L lv : sProp 𝕄) ⊢ MayWait (c : Thread nD τ) sm () (Osum l) :=
  MayOwe.of_cut (L := L) (lev := lv) (lv ((c : Thread nD τ), sm) ())
    (fun p hp => by rw [Finset.mem_singleton.mp hp, L_tc]; exact Finset.mem_singleton_self _)
    (fun g u hg => by obtain ⟨ci, _, rfl⟩ := Osum_pos hg; rw [L_tc]; exact Finset.mem_singleton_self _)
    (fun p hp => by rw [Finset.mem_singleton.mp hp])
    (fun g u hg => by obtain ⟨ci, hm, rfl⟩ := Osum_pos hg; rw [lv_kcell]; exact h ci hm)

/-- The same at one of the device's cells. -/
theorem mayWait_cell (ci : Dev nD × Fin 18) (l : List (Dev nD × Fin 18)) (h : ∀ ci' ∈ l, lvl ci < lvl ci') :
    (levAts L lv : sProp 𝕄) ⊢ MayWait (ci.1 : Thread nD τ) (csem ci.2) () (Osum l) :=
  mayWait_of ci.1 (csem ci.2) l (fun ci' hm => by rw [lv_kcell]; exact h ci' hm)

end Cert.Tree

end
-- ==== Proof.Steps.lean ====
/-
# The steps: one rule for each thing a device does with the others

A device's share of the protocol is held as one assertion per phase: `Hs` during a handshake, `Tr` while chunks move.
Each rule takes the assertion before an operation to the assertion after it; the body's proof is the kernel's program
order over these rules.
-/
module

public import proofs.«01_k».proof.Proof.Tree

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- What it takes to run a kernel program on device `c` to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every cell's invariant, under the names the launch gave them, and that every cell has reached round 0. -/
def records (K : Dev nD × Fin 18 → ℕ) : sProp 𝕄 :=
  iprop((bigSep Finset.univ fun ck : Dev nD × Fin 18 => cellInv ER (treeRd m) (K ck) (kcell ck))
    ∗ bigSep Finset.univ fun ck : Dev nD × Fin 18 => reached ER (kcell ck) 0)

instance records_persistent (K : Dev nD × Fin 18 → ℕ) : BI.Persistent (records (F := F) m K) := by unfold records; infer_instance

/-- The invariants, at some names, and the levels. -/
def Rec : sProp 𝕄 := iprop((∃ K, records m K) ∗ levAts L lv)
instance Rec_persistent : BI.Persistent (Rec (F := F) m) := by unfold Rec; infer_instance

theorem inv_at (K : Dev nD × Fin 18 → ℕ) (ck : Dev nD × Fin 18) : records (F := F) m K ⊢ cellInv ER (treeRd m) (K ck) (kcell ck) := by
  have h : records (F := F) m K ⊢ bigSep Finset.univ fun ck : Dev nD × Fin 18 => cellInv ER (treeRd m) (K ck) (kcell ck) := by
    unfold records; iintro ⟨H, -⟩; iexact H
  exact h.trans (bigSep_elim (Finset.mem_univ ck))
theorem reached_at (K : Dev nD × Fin 18 → ℕ) (ck : Dev nD × Fin 18) : records (F := F) m K ⊢ reached ER (kcell ck) 0 := by
  have h : records (F := F) m K ⊢ bigSep Finset.univ fun ck : Dev nD × Fin 18 => reached ER (kcell ck) 0 := by
    unfold records; iintro ⟨-, H⟩; iexact H
  exact h.trans (bigSep_elim (Finset.mem_univ ck))

/-- What a device owes, whatever it has waited on before. -/
def owesE (c : Dev nD) (l : List (Dev nD × Fin 18)) : sProp 𝕄 := iprop(∃ W, owes (c : Thread nD τ) (Osum l) W)

/-! ## The handshakes -/

/-- The payments still to make to the neighbours `l` in handshake `i`, with what each hands over. -/
def hsToks (c : Dev nD) (i : Fin 18) : List (Dev nD) → sProp 𝕄
  | [] => iprop(emp)
  | n :: l => iprop((dutyTok ER (kcell (n, i)) 0 c ∗ pay m n i c) ∗ hsToks c i l)

/-- Device `c` in handshake `i`, the neighbours `l` still to be signalled, `rest` owed afterwards. -/
def Hs (c : Dev nD) (i : Fin 18) (l : List (Dev nD)) (rest : List (Dev nD × Fin 18)) : sProp 𝕄 :=
  iprop(owesE c (l.map (fun n => (n, i)) ++ rest) ∗ hsToks m c i l
    ∗ cred (tallyAt (kcell (c, i)) () (dut c i).card) ∗ atPos ER (kcell (c, i)) 0 ∅ 0)

/-- Device `c` after handshake `i`: its cell closed and every neighbour's payment in hand. -/
def HsDone (c : Dev nD) (i : Fin 18) (rest : List (Dev nD × Fin 18)) : sProp 𝕄 :=
  iprop(owesE c rest ∗ semVal (kcell (c, i)) 0 ∗ bigSep (dut c i) fun d => pay m c i d)

/-- Signalling a neighbour. -/
theorem step_sig (c n : Dev nD) (i : Fin 18) (hi : amt i = 1) (hd : c ∈ dut n i) {sem : Sem sig} (hsem : csem i = .reg sem) {l : List (Dev nD)} {rest : List (Dev nD × Fin 18)}
    {dst : Thread nD τ} (hdst : dst = (n : Thread nD τ)) {z : ℤ} (hz : z = ((1 : ℕ) : ℤ)) {P : sProp 𝕄}
    {α : Type} {Q : α → sProp 𝕄} {k : PUnit → Prog (TpuEff nD τ sig (Elt F) Λ₀ .tc) α}
    (H : iprop(Rec m ∗ Hs m c i l rest ∗ P) ⊢ WP c (k ⟨⟩) Q) :
    iprop(Rec m ∗ Hs m c i (n :: l) rest ∗ P) ⊢ WP c (.op (.semSignal dst sem z) k) Q := by
  subst hdst; subst hz
  have hc : kcell (n, i) = ((n : Thread nD τ), SemLoc.reg sem) := by show ((n : Thread nD τ), csem i) = _; rw [hsem]
  have hO : Osum ((n :: l).map (fun n => (n, i)) ++ rest) = Osum (l.map (fun n => (n, i)) ++ rest) + tallyAt ((n : Thread nD τ), SemLoc.reg sem) () 1 := by
    rw [← hc, ← hi]; rfl
  unfold Hs hsToks owesE Rec
  iintro ⟨#⟨⟨%K, #HK⟩, #Hlev⟩, ⟨⟨%W, HO⟩, ⟨⟨Htok, Hpay⟩, Htoks⟩, Hcr, Hat⟩, HP⟩
  iapply (Rounds.wp_signal 𝒱₀ ER (treeRd m) (c : Thread nD τ) none (dst := (n : Thread nD τ)) (sem := sem) (κ := K (n, i)) (r := 0)
      (d := c) (k' := 1) (by rw [← hc, duties_eq]; exact hd) (by rw [← hc, amount_eq]; exact hi) () (Osum (l.map (fun n => (n, i)) ++ rest))
      hO (W := W)) $$ [HO Htok Hpay]
  · rw [← hc, payload_eq]
    isplitr; · iapply (inv_at m K (n, i)); iexact HK
    isplitl [HO]; · iexact HO
    isplitl [Htok]; · iexact Htok
    isplitl [Hpay]; · iexact Hpay
    iapply (reached_at m K (n, i)); iexact HK
  iintro HO
  iapply H
  unfold Hs owesE Rec
  isplitr
  · isplitr; · iexists K; iexact HK
    iexact Hlev
  isplitr [HP]
  · isplitl [HO]; · iexists W; iexact HO
    isplitl [Htoks]; · iexact Htoks
    isplitl [Hcr] <;> iassumption
  iexact HP

/-- A cell of this device, waited on for all its round and closed: a regular semaphore's wait. -/
theorem step_hs (c : Dev nD) (i : Fin 18) (hi : amt i = 1) {sem : Sem sig} (hsem : csem i = .reg sem) {rest : List (Dev nD × Fin 18)}
    (hl : ∀ ci ∈ rest, lvl (c, i) < lvl ci) {z : ℤ} (hz : z = (((dut c i).card : ℕ) : ℤ)) {P : sProp 𝕄}
    {α : Type} {Q : α → sProp 𝕄} {k : PUnit → Prog (TpuEff nD τ sig (Elt F) Λ₀ .tc) α}
    (H : iprop(Rec m ∗ HsDone m c i rest ∗ P) ⊢ WP c (k ⟨⟩) Q) :
    iprop(Rec m ∗ Hs m c i [] rest ∗ P) ⊢ WP c (.op (.semWait sem z) k) Q := by
  subst hz
  have hc : kcell (c, i) = ((c : Thread nD τ), SemLoc.reg sem) := by show ((c : Thread nD τ), csem i) = _; rw [hsem]
  have hw := mayWait_cell (F := F) (c, i) rest hl
  rw [show csem (c, i).2 = SemLoc.reg sem from hsem] at hw
  unfold Hs hsToks owesE Rec
  iintro ⟨#⟨⟨%K, #HK⟩, #Hlev⟩, ⟨⟨%W, HO⟩, -, Hcr, Hat⟩, HP⟩
  iapply (Rounds.wp_wait_rest_token 𝒱₀ ER (treeRd m) (c : Thread nD τ) none (κ := K (c, i)) (sm := .reg sem) (k' := (dut c i).card)
      (wpE_semWait_eq 𝒱₀ (c : Thread nD τ) none Set.univ) (Set.mem_univ _) () (O := Osum rest) (W := W) (R := 0) (m := 0) (T := ∅)
      (by rw [← hc, expect_eq, hi, Nat.zero_add, Nat.mul_one])) $$ [Hcr HO Hat]
  · rw [← hc]
    isplitr; · iapply (inv_at m K (c, i)); iexact HK
    isplitl [Hcr]; · iexact Hcr
    isplitl [HO]; · iexact HO
    isplitr; · iapply hw; iexact Hlev
    iexact Hat
  rw [← hc, Finset.sdiff_empty, duties_eq]
  iintro ⟨HO, Hat, -, Hpay⟩
  imod (Rounds.cell_close ER (treeRd m) (Set.mem_univ (K (c, i))) (fun h => h) (R := 0 + 1) (duties_later m (kcell (c, i)))) $$ [Hat] with Hz
  · isplitr; · iapply (inv_at m K (c, i)); iexact HK
    iexact Hat
  iapply H
  unfold HsDone owesE Rec
  isplitr
  · isplitr; · iexists K; iexact HK
    iexact Hlev
  isplitr [HP]
  · isplitl [HO]; · iexists _; iexact HO
    isplitl [Hz]; · iexact Hz
    iapply (Entails.of_eq (bigSep_congr (s := dut c i) (Ψ := fun d => pay m c i d) (fun d _ => payload_eq m (c, i) d)))
    iexact Hpay
  iexact HP

/-! ## The chunks -/

/-- The departure of chunk `k` to child `j`: 0 before the chunk is there, 1 ready to depart, 2 departed, 3 done. A slot
    without a child only carries its share of the chunk. -/
def sendPiece (c : Dev nD) (k : Fin 4) (j : Fin 3) (n : ℕ) : sProp 𝕄 :=
  if j.val < nch c then
    match n with
    | 0 => iprop(dutyTok ER (kcell (c, iSend j k)) 0 c ∗ dutyTok ER (kcell (child c j, iRecv k)) 0 c ∗ atPos ER (kcell (c, iSend j k)) 0 ∅ 0
        ∗ ∃ f, chPts (child c j) k fullShare f)
    | 1 => iprop((dutyTok ER (kcell (c, iSend j k)) 0 c ∗ dutyTok ER (kcell (child c j, iRecv k)) 0 c ∗ atPos ER (kcell (c, iSend j k)) 0 ∅ 0
        ∗ ∃ f, chPts (child c j) k fullShare f) ∗ chPts c k (shSend j) (KV m k))
    | 2 => iprop(cred (tallyAt (kcell (c, iSend j k)) () N) ∗ atPos ER (kcell (c, iSend j k)) 0 ∅ 0)
    | _ => iprop(semVal (kcell (c, iSend j k)) 0 ∗ chPts c k (shSend j) (KV m k))
  else
    match n with
    | 0 => semVal (kcell (c, iSend j k)) 0
    | _ => iprop(semVal (kcell (c, iSend j k)) 0 ∗ chPts c k (shSend j) (KV m k))

/-- The arrival of chunk `k`: 0 before, otherwise the share the device keeps of it. The root fills its chunks itself. -/
def keepPiece (c : Dev nD) (k : Fin 4) (n : ℕ) : sProp 𝕄 :=
  match n with
  | 0 => if c = 0 then iprop(semVal (kcell (c, iRecv k)) 0 ∗ ∃ f, chPts c k fullShare f)
      else iprop(atPos ER (kcell (c, iRecv k)) 0 ∅ 0 ∗ cred (tallyAt (kcell (c, iRecv k)) () N))
  | _ => iprop(semVal (kcell (c, iRecv k)) 0 ∗ chPts c k shKeep (KV m k))

/-- Device `c` while chunks move: what it owes, its departures' statuses `T` and its arrivals' statuses `A`. -/
def Tr (c : Dev nD) (l : List (Dev nD × Fin 18)) (T : Fin 4 × Fin 3 → ℕ) (A : Fin 4 → ℕ) : sProp 𝕄 :=
  iprop(owesE c l ∗ (bigSep Finset.univ fun kj : Fin 4 × Fin 3 => sendPiece m c kj.1 kj.2 (T kj)) ∗ bigSep Finset.univ fun k : Fin 4 => keepPiece m c k (A k))

/-- The statuses after a departure's next step; after chunk `k` has arrived. -/
def setS (T : Fin 4 × Fin 3 → ℕ) (k : Fin 4) (j : Fin 3) (n : ℕ) : Fin 4 × Fin 3 → ℕ := fun kj => if kj = (k, j) then n else T kj
def arrT (T : Fin 4 × Fin 3 → ℕ) (k : Fin 4) : Fin 4 × Fin 3 → ℕ := fun kj => if kj.1 = k then 1 else T kj
def arrA (A : Fin 4 → ℕ) (k : Fin 4) : Fin 4 → ℕ := fun k' => if k' = k then 1 else A k'

/-- A chunk dealt into the share kept and the three departures' shares, and put together again. -/
theorem chunk_split (c : Dev nD) (k : Fin 4) (f : (cc0_scratch0 : Ref sig .tc).ty.Contents (Elt F)) :
    (chPts (F := F) c k fullShare f) ⊣⊢ iprop(chPts c k shKeep f ∗ chPts c k (shSend 0) f ∗ chPts c k (shSend 1) f ∗ chPts c k (shSend 2) f) := by
  unfold chPts shKeep shSend
  constructor
  · iintro H
    ihave H := (pointsTo_share (PosShare.mem_left_op_right fullShare)).1 $$ H
    icases H with ⟨H0, H⟩
    ihave H := (pointsTo_share (PosShare.mem_left_op_right fullShare.right)).1 $$ H
    icases H with ⟨H1, H⟩
    ihave H := (pointsTo_share (PosShare.mem_left_op_right fullShare.right.right)).1 $$ H
    icases H with ⟨H2, H3⟩
    isplitl [H0]; · iexact H0
    isplitl [H1]; · iexact H1
    isplitl [H2] <;> iassumption
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2] <;> iassumption

theorem sendPiece_arrive (c : Dev nD) (k : Fin 4) (j : Fin 3) :
    iprop(sendPiece m c k j 0 ∗ chPts c k (shSend j) (KV m k)) ⊢ sendPiece m c k j 1 := by
  refine Entails.of_eq ?_
  unfold sendPiece
  split <;> rfl

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem row_arrive (c : Dev nD) (k : Fin 4) (T : Fin 4 × Fin 3 → ℕ) (hT : ∀ j, T (k, j) = 0) :
    iprop((bigSep Finset.univ fun j : Fin 3 => sendPiece m c k j (T (k, j))) ∗ chPts c k (shSend 0) (KV m k) ∗ chPts c k (shSend 1) (KV m k) ∗ chPts c k (shSend 2) (KV m k))
      ⊢ bigSep Finset.univ fun j : Fin 3 => sendPiece m c k j (arrT T k (k, j)) := by
  simp only [arrT, if_true, hT]
  rw [bigSep_fin3, bigSep_fin3]
  iintro ⟨⟨R0, R1, R2⟩, H0, H1, H2⟩
  isplitl [R0 H0]; · iapply (sendPiece_arrive m c k 0); isplitl [R0] <;> iassumption
  isplitl [R1 H1]; · iapply (sendPiece_arrive m c k 1); isplitl [R1] <;> iassumption
  iapply (sendPiece_arrive m c k 2); isplitl [R2] <;> iassumption

/-- Chunk `k` is there: its departures are ready and its share is kept. -/
theorem arrive (c : Dev nD) (k : Fin 4) (T : Fin 4 × Fin 3 → ℕ) (A : Fin 4 → ℕ) (hT : ∀ j, T (k, j) = 0) :
    iprop(semVal (kcell (c, iRecv k)) 0 ∗ chPts c k fullShare (KV m k)
        ∗ (bigSep Finset.univ fun kj : Fin 4 × Fin 3 => sendPiece m c kj.1 kj.2 (T kj))
        ∗ (keepPiece m c k 1 -∗ bigSep Finset.univ fun k' : Fin 4 => keepPiece m c k' (arrA A k k')))
      ⊢ iprop((bigSep Finset.univ fun kj : Fin 4 × Fin 3 => sendPiece m c kj.1 kj.2 (arrT T k kj)) ∗ bigSep Finset.univ fun k' : Fin 4 => keepPiece m c k' (arrA A k k')) := by
  rw [bigSep_univ_prod (fun kj : Fin 4 × Fin 3 => sendPiece m c kj.1 kj.2 (T kj)), bigSep_univ_prod (fun kj : Fin 4 × Fin 3 => sendPiece m c kj.1 kj.2 (arrT T k kj))]
  iintro ⟨Hz, Hch, Hs, Hk⟩
  ihave Hch := (chunk_split c k (KV m k)).1 $$ Hch
  icases Hch with ⟨H, H0, H1, H2⟩
  ihave Hs := (bigSep_univ_update (Φ := fun k' => bigSep Finset.univ fun j : Fin 3 => sendPiece m c k' j (T (k', j)))
    (Ψ := fun k' => bigSep Finset.univ fun j : Fin 3 => sendPiece m c k' j (arrT T k (k', j))) k (fun k' hk => by simp only [arrT, if_neg hk])) $$ Hs
  icases Hs with ⟨Hrow, Hback⟩
  isplitl [Hrow Hback H0 H1 H2]
  · iapply Hback
    iapply (row_arrive m c k T hT)
    isplitl [Hrow]; · iexact Hrow
    isplitl [H0]; · iexact H0
    isplitl [H1] <;> iassumption
  iapply Hk
  iapply (Entails.of_eq (show iprop(semVal (kcell (c, iRecv k)) 0 ∗ chPts c k shKeep (KV m k)) = keepPiece m c k 1 from rfl))
  isplitl [Hz] <;> iassumption

/-- Waiting for chunk `k` to arrive from the parent. -/
theorem step_rwait (c : Dev nD) (k : Fin 4) (hc0 : c ≠ 0) {l : List (Dev nD × Fin 18)} {T : Fin 4 × Fin 3 → ℕ} {A : Fin 4 → ℕ}
    (hT : ∀ j, T (k, j) = 0) (hA : A k = 0) (hl : ∀ ci ∈ l, lvl (c, iRecv k) < lvl ci) {sem : DmaSem sig} (hsem : csem (iRecv k) = .dma sem) {P : sProp 𝕄}
    {α : Type} {Q : α → sProp 𝕄} {kk : PUnit → Prog (TpuEff nD τ sig (Elt F) Λ₀ .tc) α}
    {src : Memref sig .tc .vmem S256x4x64 .bf16} {hw1 hw2}
    (H : iprop(Rec m ∗ Tr m c l (arrT T k) (arrA A k) ∗ P) ⊢ WP c (kk ⟨⟩) Q) :
    iprop(Rec m ∗ Tr m c l T A ∗ P) ⊢ WP c (.op (.waitDma2 sem src (chM k) hw1 hw2) kk) Q := by
  have hc : kcell (c, iRecv k) = ((c : Thread nD τ), SemLoc.dma sem) := by show ((c : Thread nD τ), csem _) = _; rw [hsem]
  have hw := mayWait_cell (F := F) (c, iRecv k) l hl
  rw [show csem (c, iRecv k).2 = SemLoc.dma sem from hsem] at hw
  unfold Tr owesE Rec
  iintro ⟨#⟨⟨%K, #HK⟩, #Hlev⟩, ⟨⟨%W, HO⟩, Hs, Hks⟩, HP⟩
  ihave Hks := (bigSep_univ_update (Φ := fun k' => keepPiece m c k' (A k')) (Ψ := fun k' => keepPiece m c k' (arrA A k k')) k
    (fun k' hk => by simp only [arrA, if_neg hk])) $$ Hks
  rw [hA, show arrA A k k = 1 by simp [arrA]]
  icases Hks with ⟨Hk, Hback⟩
  ihave Hk := (Entails.of_eq (show keepPiece m c k 0 = iprop(atPos ER (kcell (c, iRecv k)) 0 ∅ 0 ∗ cred (tallyAt (kcell (c, iRecv k)) () N)) by
    unfold keepPiece; exact if_neg hc0)) $$ Hk
  icases Hk with ⟨Hat, Hcr⟩
  iapply (Rounds.wp_wait_rest_token 𝒱₀ ER (treeRd m) (c : Thread nD τ) none (κ := K (c, iRecv k)) (sm := .dma sem) (k' := N)
      (wpE_waitDma2_eq 𝒱₀ (c : Thread nD τ) none Set.univ (sem := sem) (src := src) (dst := chM k) (hsrc := hw1) (hdst := hw2)) (Set.mem_univ _) () (O := Osum l) (W := W) (R := 0) (m := 0) (T := ∅)
      (by rw [← hc, expect_eq, Nat.zero_add, dut_recv c k hc0, amt_recv, Finset.card_singleton, Nat.one_mul])) $$ [Hcr HO Hat]
  · rw [← hc]
    isplitr; · iapply (inv_at m K (c, iRecv k)); iexact HK
    isplitl [Hcr]; · iexact Hcr
    isplitl [HO]; · iexact HO
    isplitr; · iapply hw; iexact Hlev
    iexact Hat
  rw [← hc, Finset.sdiff_empty, duties_eq, dut_recv c k hc0, bigSep_singleton, payload_eq, pay_recv]
  iintro ⟨HO, Hat, -, Hpay⟩
  imod (Rounds.cell_close ER (treeRd m) (Set.mem_univ (K (c, iRecv k))) (fun h => h) (R := 0 + 1) (duties_later m (kcell (c, iRecv k)))) $$ [Hat] with Hz
  · isplitr; · iapply (inv_at m K (c, iRecv k)); iexact HK
    iexact Hat
  ihave Hall := (arrive m c k T A hT) $$ [Hz Hpay Hs Hback]
  · isplitl [Hz]; · iexact Hz
    isplitl [Hpay]; · iexact Hpay
    isplitl [Hs] <;> iassumption
  iapply H
  unfold Tr owesE Rec
  isplitr
  · isplitr; · iexists K; iexact HK
    iexact Hlev
  isplitr [HP]
  · isplitl [HO]; · iexists _; iexact HO
    iexact Hall
  iexact HP

/-- Waiting for chunk `k`'s departure to child `j` to be over. -/
theorem step_swait (c : Dev nD) (k : Fin 4) (j : Fin 3) (hj : j.val < nch c) {l : List (Dev nD × Fin 18)} {T : Fin 4 × Fin 3 → ℕ} {A : Fin 4 → ℕ}
    (hT : T (k, j) = 2) (hl : ∀ ci ∈ l, lvl (c, iSend j k) < lvl ci) {sem : DmaSem sig} (hsem : csem (iSend j k) = .dma sem) {P : sProp 𝕄}
    {α : Type} {Q : α → sProp 𝕄} {kk : PUnit → Prog (TpuEff nD τ sig (Elt F) Λ₀ .tc) α}
    {src : Memref sig .tc .vmem S256x4x64 .bf16} {hw1 hw2}
    (H : iprop(Rec m ∗ Tr m c l (setS T k j 3) A ∗ P) ⊢ WP c (kk ⟨⟩) Q) :
    iprop(Rec m ∗ Tr m c l T A ∗ P) ⊢ WP c (.op (.waitDma2 sem src (chM k) hw1 hw2) kk) Q := by
  have hc : kcell (c, iSend j k) = ((c : Thread nD τ), SemLoc.dma sem) := by show ((c : Thread nD τ), csem _) = _; rw [hsem]
  have hw := mayWait_cell (F := F) (c, iSend j k) l hl
  rw [show csem (c, iSend j k).2 = SemLoc.dma sem from hsem] at hw
  have h2 : sendPiece m c k j 2 = iprop(cred (tallyAt (kcell (c, iSend j k)) () N) ∗ atPos ER (kcell (c, iSend j k)) 0 ∅ 0) := by
    unfold sendPiece; exact if_pos hj
  have h3 : sendPiece m c k j 3 = iprop(semVal (kcell (c, iSend j k)) 0 ∗ chPts c k (shSend j) (KV m k)) := by
    unfold sendPiece; exact if_pos hj
  unfold Tr owesE Rec
  iintro ⟨#⟨⟨%K, #HK⟩, #Hlev⟩, ⟨⟨%W, HO⟩, Hs, Hks⟩, HP⟩
  ihave Hs := (bigSep_univ_update (Φ := fun kj : Fin 4 × Fin 3 => sendPiece m c kj.1 kj.2 (T kj))
    (Ψ := fun kj : Fin 4 × Fin 3 => sendPiece m c kj.1 kj.2 (setS T k j 3 kj)) (k, j) (fun kj hk => by simp only [setS, if_neg hk])) $$ Hs
  rw [hT, show setS T k j 3 (k, j) = 3 by simp [setS], h2, h3]
  icases Hs with ⟨⟨Hcr, Hat⟩, Hback⟩
  iapply (Rounds.wp_wait_rest_token 𝒱₀ ER (treeRd m) (c : Thread nD τ) none (κ := K (c, iSend j k)) (sm := .dma sem) (k' := N)
      (wpE_waitDma2_eq 𝒱₀ (c : Thread nD τ) none Set.univ (sem := sem) (src := src) (dst := chM k) (hsrc := hw1) (hdst := hw2)) (Set.mem_univ _) () (O := Osum l) (W := W) (R := 0) (m := 0) (T := ∅)
      (by rw [← hc, expect_eq, Nat.zero_add, dut_send c j k hj, amt_send, Finset.card_singleton, Nat.one_mul])) $$ [Hcr HO Hat]
  · rw [← hc]
    isplitr; · iapply (inv_at m K (c, iSend j k)); iexact HK
    isplitl [Hcr]; · iexact Hcr
    isplitl [HO]; · iexact HO
    isplitr; · iapply hw; iexact Hlev
    iexact Hat
  rw [← hc, Finset.sdiff_empty, duties_eq, dut_send c j k hj, bigSep_singleton, payload_eq, pay_send]
  iintro ⟨HO, Hat, -, Hpay⟩
  imod (Rounds.cell_close ER (treeRd m) (Set.mem_univ (K (c, iSend j k))) (fun h => h) (R := 0 + 1) (duties_later m (kcell (c, iSend j k)))) $$ [Hat] with Hz
  · isplitr; · iapply (inv_at m K (c, iSend j k)); iexact HK
    iexact Hat
  iapply H
  unfold Tr owesE Rec
  isplitr
  · isplitr; · iexists K; iexact HK
    iexact Hlev
  isplitr [HP]
  · isplitl [HO]; · iexists _; iexact HO
    isplitr [Hks]
    · iapply Hback
      isplitl [Hz] <;> iassumption
    iexact Hks
  iexact HP

/-- What a chunk's transfer leaves in the receiver's buffer is the sender's chunk. -/
theorem landed_eq (c : Dev nD) (k : Fin 4) (fd f : (cc0_scratch0 : Ref sig .tc).ty.Contents (Elt F)) :
    ((chM k).view.loc (c : Thread nD τ) ↦[(chM k).view.set]{fullShare} ((chM k).view.write (Elt F) fd ((chM k).view.read (Elt F) f) Finset.univ) : sProp 𝕄)
      = chPts c k fullShare f := by
  unfold chPts
  refine pointsTo_congr fun i hi => ?_
  obtain ⟨x, -, rfl⟩ := Finset.mem_map.mp hi
  rw [View.write_emb_of_mem _ _ (Finset.mem_univ _), View.read_apply]
  exact cast_cast _ _ _ |>.trans (cast_eq _ _)

/-- Sending chunk `k` to child `j`. -/
theorem step_send (c : Dev nD) (k : Fin 4) (j : Fin 3) (hj : j.val < nch c) {l : List (Dev nD × Fin 18)} {T : Fin 4 × Fin 3 → ℕ} {A : Fin 4 → ℕ}
    (hT : T (k, j) = 1) {n : Dev nD} (hn : n = child c j) {sS sR : DmaSem sig} (hsS : csem (iSend j k) = .dma sS) (hsR : csem (iRecv k) = .dma sR) {P : sProp 𝕄}
    {α : Type} {Q : α → sProp 𝕄} {kk : PUnit → Prog (TpuEff nD τ sig (Elt F) Λ₀ .tc) α}
    {hsc : (chM k : Memref sig (Dev.tc n : Thread nD τ).2.kind .vmem S256x4x64 .bf16).view.ref.isScScratch = false}
    {hsrc : (chM k).view.WordExact} {hdst : (chM k).view.WordExact}
    {hsem : DmaTarget.Typed .vmem (.dma sR) (.remote (Dev.tc n : Thread nD τ) (chM k) (.dma sS) hsc)}
    (H : iprop(Rec m ∗ Tr m c l (setS T k j 2) A ∗ P) ⊢ WP c (kk ⟨⟩) Q) :
    iprop(Rec m ∗ Tr m c ((child c j, iRecv k) :: l) T A ∗ P)
      ⊢ WP c (.op (.enqueueDma (chM k) (.remote (Dev.tc n : Thread nD τ) (chM k) (.dma sS) hsc) (.dma sR) hsrc hdst hsem) kk) Q := by
  subst hn
  obtain ⟨hp, hn0⟩ := par_child c j hj
  have hcS : kcell (c, iSend j k) = ((c : Thread nD τ), SemLoc.dma sS) := by show ((c : Thread nD τ), csem _) = _; rw [hsS]
  have hcR : kcell (child c j, iRecv k) = ((child c j : Thread nD τ), SemLoc.dma sR) := by show ((child c j : Thread nD τ), csem _) = _; rw [hsR]
  have h1 : sendPiece m c k j 1 = iprop((dutyTok ER (kcell (c, iSend j k)) 0 c ∗ dutyTok ER (kcell (child c j, iRecv k)) 0 c ∗ atPos ER (kcell (c, iSend j k)) 0 ∅ 0
        ∗ ∃ f, chPts (child c j) k fullShare f) ∗ chPts c k (shSend j) (KV m k)) := by
    unfold sendPiece; exact if_pos hj
  have h2 : sendPiece m c k j 2 = iprop(cred (tallyAt (kcell (c, iSend j k)) () N) ∗ atPos ER (kcell (c, iSend j k)) 0 ∅ 0) := by
    unfold sendPiece; exact if_pos hj
  have hO : Osum ((child c j, iRecv k) :: l) = Osum l + tallyAt ((child c j : Thread nD τ), SemLoc.dma sR) () N := by
    rw [← hcR, ← amt_recv k]; rfl
  unfold Tr owesE Rec
  iintro ⟨#⟨⟨%K, #HK⟩, #Hlev⟩, ⟨⟨%W, HO⟩, Hs, Hks⟩, HP⟩
  ihave Hs := (bigSep_univ_update (Φ := fun kj : Fin 4 × Fin 3 => sendPiece m c kj.1 kj.2 (T kj))
    (Ψ := fun kj : Fin 4 × Fin 3 => sendPiece m c kj.1 kj.2 (setS T k j 2 kj)) (k, j) (fun kj hk => by simp only [setS, if_neg hk])) $$ Hs
  rw [hT, show setS T k j 2 (k, j) = 2 by simp [setS], h1, h2]
  icases Hs with ⟨⟨⟨HtS, HtR, Hat, ⟨%fd, Hd⟩⟩, Hsrc⟩, Hback⟩
  iapply (Rounds.wp_send_pointsTo 𝒱₀ ER (treeRd m) (c : Thread nD τ) none (c' := (child c j : Thread nD τ)) (src := chM k) (dst := chM k) (sS := .dma sS) (sem := .dma sR)
    (κ₁ := K (c, iSend j k)) (κ₂ := K (child c j, iRecv k)) (q := shSend j) (fs := KV m k) (fd := fd)
    (r₁ := 0) (r₂ := 0) (d₁ := c) (d₂ := c)
    (by rw [← hcS, duties_eq, dut_send c j k hj]; exact Finset.mem_singleton_self _)
    (by rw [← hcR, duties_eq, dut_recv _ k hn0, hp]; exact Finset.mem_singleton_self _)
    () () N (N_eq k) (by rw [← hcS, amount_eq, amt_send]) (by rw [← hcR, amount_eq, amt_recv]) (Osum l)
    hO (W := W)
    (by rw [← hcS, payload_eq, pay_send]; exact BI.Entails.refl _)
    (by rw [← hcR, payload_eq, pay_recv]; exact Entails.of_eq (landed_eq (child c j) k fd (KV m k)))) $$ [HtS HtR Hd Hsrc HO]
  · rw [← hcS, ← hcR]
    isplitr; · iapply (inv_at m K (c, iSend j k)); iexact HK
    isplitr; · iapply (inv_at m K (child c j, iRecv k)); iexact HK
    isplitl [Hsrc]; · unfold chPts; iexact Hsrc
    isplitl [Hd]; · unfold chPts; iexact Hd
    isplitl [HO]; · iexact HO
    isplitl [HtS]; · iexact HtS
    isplitr; · iapply (reached_at m K (c, iSend j k)); iexact HK
    isplitl [HtR]; · iexact HtR
    iapply (reached_at m K (child c j, iRecv k)); iexact HK
  rw [← hcS]
  iintro ⟨Hcr, HO⟩
  iapply H
  unfold Tr owesE Rec
  isplitr
  · isplitr; · iexists K; iexact HK
    iexact Hlev
  isplitr [HP]
  · isplitl [HO]; · iexists _; iexact HO
    isplitr [Hks]
    · iapply Hback
      isplitl [Hcr] <;> iassumption
    iexact Hks
  iexact HP

/-! ## Reading and filling the chunks -/

theorem chunk_set (k : Fin 4) : (chM k).view.set = (kvM.access (rk k)).set := View.set_reshape _ _

/-- Reading out of a chunk that is there. -/
theorem step_loadkv (c : Dev nD) (k : Fin 4) {l : List (Dev nD × Fin 18)} {T : Fin 4 × Fin 3 → ℕ} {A : Fin 4 → ℕ} (hA : A k = 1)
    {r : LoadRect S4x256x4x64} (hr : kvM.view.setOn r.set ⊆ (kvM.access (rk k)).set) {hl : kvM.view.LoadsAt r} {P : sProp 𝕄}
    {α : Type} {Q : α → sProp 𝕄} {kk : (r.shape.Idx → Elt F .bf16) → Prog (TpuEff nD τ sig (Elt F) Λ₀ .tc) α}
    (H : iprop(Rec m ∗ Tr m c l T A ∗ P) ⊢ WP c (kk (kvM.view.readAt (Elt F) r (KV m k))) Q) :
    iprop(Rec m ∗ Tr m c l T A ∗ P) ⊢ WP c (.op (.load kvM r hl) kk) Q := by
  unfold Tr
  iintro ⟨HR, ⟨HO, Hs, Hks⟩, HP⟩
  ihave Hks := (bigSep_univ_update (Φ := fun k' => keepPiece m c k' (A k')) (Ψ := fun k' => keepPiece m c k' (A k')) k (fun k' hk => rfl)) $$ Hks
  rw [hA]
  rw [show keepPiece m c k 1 = iprop(semVal (kcell (c, iRecv k)) 0 ∗ chPts c k shKeep (KV m k)) from rfl]
  unfold chPts
  icases Hks with ⟨⟨Hz, Hch⟩, Hback⟩
  iapply (wp_load 𝒱₀ (c : Thread nD τ) none Set.univ (m := kvM) (r := r) (S := (chM k).view.set) (q := shKeep) (f := KV m k) (by rw [chunk_set]; exact hr)) $$ Hch
  iintro Hch
  iapply H
  unfold Tr
  isplitl [HR]; · iexact HR
  isplitr [HP]
  · isplitl [HO]; · iexact HO
    isplitl [Hs]; · iexact Hs
    iapply Hback
    isplitl [Hz] <;> iassumption
  iexact HP

/-- The root reads a chunk it has not filled yet: any value. -/
theorem step_loadraw (k : Fin 4) {l : List (Dev nD × Fin 18)} {T : Fin 4 × Fin 3 → ℕ} {A : Fin 4 → ℕ} (hA : A k = 0)
    {hl : kvM.view.LoadsAt (rk k).toLoadRect} {P : sProp 𝕄}
    {α : Type} {Q : α → sProp 𝕄} {kk : ((rk k).toLoadRect.shape.Idx → Elt F .bf16) → Prog (TpuEff nD τ sig (Elt F) Λ₀ .tc) α}
    (H : ∀ v, iprop(Rec m ∗ Tr m 0 l T A ∗ P) ⊢ WP 0 (kk v) Q) :
    iprop(Rec m ∗ Tr m 0 l T A ∗ P) ⊢ WP 0 (.op (.load kvM (rk k).toLoadRect hl) kk) Q := by
  unfold Tr
  iintro ⟨HR, ⟨HO, Hs, Hks⟩, HP⟩
  ihave Hks := (bigSep_univ_update (Φ := fun k' => keepPiece m 0 k' (A k')) (Ψ := fun k' => keepPiece m 0 k' (A k')) k (fun k' hk => rfl)) $$ Hks
  rw [hA, show keepPiece m 0 k 0 = iprop(semVal (kcell (0, iRecv k)) 0 ∗ ∃ f, chPts (F := F) 0 k fullShare f) from by unfold keepPiece; exact if_pos rfl]
  unfold chPts
  icases Hks with ⟨⟨Hz, ⟨%f, Hch⟩⟩, Hback⟩
  iapply (wp_load_rect 𝒱₀ ((0 : Dev nD) : Thread nD τ) none Set.univ (m := kvM) (r := rk k) (S := (chM k).view.set) (q := fullShare) (f := f) (by rw [chunk_set])) $$ Hch
  iintro Hch
  iapply (H _)
  unfold Tr
  isplitl [HR]; · iexact HR
  isplitr [HP]
  · isplitl [HO]; · iexact HO
    isplitl [Hs]; · iexact Hs
    iapply Hback
    isplitl [Hz]; · iexact Hz
    iexists f; iexact Hch
  iexact HP

/-- The root fills chunk `k`. -/
theorem step_fill (k : Fin 4) {l : List (Dev nD × Fin 18)} {T : Fin 4 × Fin 3 → ℕ} {A : Fin 4 → ℕ} (hT : ∀ j, T (k, j) = 0) (hA : A k = 0)
    {hx : (kvM.access (rk k)).Stores Finset.univ} {hm : Finset.univ = Finset.univ ∨ ∀ a, (rk k).stride a = 1} {P : sProp 𝕄}
    {α : Type} {Q : α → sProp 𝕄} {kk : PUnit → Prog (TpuEff nD τ sig (Elt F) Λ₀ .tc) α}
    (H : iprop(Rec m ∗ Tr m 0 l (arrT T k) (arrA A k) ∗ P) ⊢ WP 0 (kk ⟨⟩) Q) :
    iprop(Rec m ∗ Tr m 0 l T A ∗ P) ⊢ WP 0 (.op (.store kvM (rk k) (kvPay m k) Finset.univ hx hm) kk) Q := by
  unfold Tr
  iintro ⟨HR, ⟨HO, Hs, Hks⟩, HP⟩
  ihave Hks := (bigSep_univ_update (Φ := fun k' => keepPiece m 0 k' (A k')) (Ψ := fun k' => keepPiece m 0 k' (arrA A k k')) k
    (fun k' hk => by simp only [arrA, if_neg hk])) $$ Hks
  rw [hA, show arrA A k k = 1 by simp [arrA]]
  icases Hks with ⟨Hk, Hback⟩
  ihave Hk := (Entails.of_eq (show keepPiece m 0 k 0 = iprop(semVal (kcell (0, iRecv k)) 0 ∗ ∃ f, chPts (F := F) 0 k fullShare f) from by unfold keepPiece; exact if_pos rfl)) $$ Hk
  unfold chPts
  icases Hk with ⟨Hz, ⟨%f, Hch⟩⟩
  iapply (wp_store 𝒱₀ ((0 : Dev nD) : Thread nD τ) none Set.univ (m := kvM) (r := rk k) (Mk := Finset.univ) (S := (chM k).view.set) (f := f) (by rw [chunk_set]; exact Finset.Subset.refl _)) $$ Hch
  iintro Hch
  ihave Hch := (Entails.of_eq (show _ = chPts (F := F) 0 k fullShare (KV m k) from by
    unfold chPts KV; rw [chunk_set]
    exact View.pointsTo_write_univ_congr ((0 : Dev nD) : Thread nD τ) (kvM.access (rk k)) fullShare f _ _)) $$ Hch
  ihave Hall := (arrive m 0 k T A hT) $$ [Hz Hch Hs Hback]
  · isplitl [Hz]; · iexact Hz
    isplitl [Hch]; · iexact Hch
    isplitl [Hs] <;> iassumption
  iapply H
  unfold Tr
  isplitl [HR]; · iexact HR
  isplitr [HP]
  · isplitl [HO]; · iexact HO
    iexact Hall
  iexact HP

end Cert.Tree

end
-- ==== Proof.Buf.lean ====
/-
# The buffers

A device's staged blocks, its work buffers and its staged result, and the rules for reading and writing them.
-/
module

public import proofs.«01_k».proof.Proof.Steps

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The buffers a device works in -/

/-- One whole buffer of device `c`, at contents. -/
abbrev pts (c : Dev nD) (b : Ref sig .tc) (f : b.ty.Contents (Elt F)) : sProp 𝕄 := ((c : Thread nD τ).loc b) ↦{fullShare} f

/-- The staged blocks, the two work buffers and the staged result. -/
def Bf (c : Dev nD) (fq : (cc0_scratch1 : Ref sig .tc).ty.Contents (Elt F)) (fw : (cc0_scratch2 : Ref sig .tc).ty.Contents (Elt F))
    (fo : (cc0_stg5_0 : Ref sig .tc).ty.Contents (Elt F)) : sProp 𝕄 :=
  iprop(pts c cc0_stg0_0 (xstg m c) ∗ pts c cc0_stg1_0 (wqstg m c) ∗ pts c cc0_stg2_0 (kstg m c) ∗ pts c cc0_stg3_0 (vstg m c) ∗ pts c cc0_stg4_0 (wostg m c)
    ∗ pts c cc0_scratch1 fq ∗ pts c cc0_scratch2 fw ∗ pts c cc0_stg5_0 fo)

/-- Reading a buffer that is part of what is held. -/
theorem step_load_of {c : Dev nD} {R₀ R₁ P B : sProp 𝕄} {α : Type} {Q : α → sProp 𝕄} {s : Shape} {e : EltTy} {M : Memref sig .tc .vmem s e} (f : Buf (Elt F) (M.view.loc (c : Thread nD τ))) {R : sProp 𝕄}
    (hin : B ⊢ iprop((M.view.loc (c : Thread nD τ) ↦{fullShare} f) ∗ R)) (hout : iprop((M.view.loc (c : Thread nD τ) ↦{fullShare} f) ∗ R) ⊢ B)
    {r : LoadRect s} {hl : M.view.LoadsAt r} {kk : (r.shape.Idx → Elt F e) → Prog (TpuEff nD τ sig (Elt F) Λ₀ .tc) α}
    (H : iprop(R₀ ∗ R₁ ∗ B ∗ P) ⊢ WP c (kk (M.view.readAt (Elt F) r f)) Q) :
    iprop(R₀ ∗ R₁ ∗ B ∗ P) ⊢ WP c (.op (.load M r hl) kk) Q := by
  iintro ⟨H0, H1, HB, HP⟩
  ihave HB := hin $$ HB
  icases HB with ⟨Hb, HR⟩
  iapply (wp_load 𝒱₀ (c : Thread nD τ) none Set.univ (m := M) (r := r) (S := Finset.univ) (q := fullShare) (f := f) (Finset.subset_univ _)) $$ Hb
  iintro Hb
  iapply H
  isplitl [H0]; · iexact H0
  isplitl [H1]; · iexact H1
  isplitr [HP]
  · iapply hout; isplitl [Hb] <;> iassumption
  iexact HP

/-- Writing a buffer that is part of what is held. -/
theorem step_store_of {c : Dev nD} {R₀ R₁ P B B' : sProp 𝕄} {α : Type} {Q : α → sProp 𝕄} {s : Shape} {e : EltTy} {M : Memref sig .tc .vmem s e} (f : Buf (Elt F) (M.view.loc (c : Thread nD τ))) {R : sProp 𝕄}
    {r : Rect s} {w : r.shape.Idx → Elt F e}
    (hin : B ⊢ iprop((M.view.loc (c : Thread nD τ) ↦{fullShare} f) ∗ R))
    (hout : iprop((M.view.loc (c : Thread nD τ) ↦{fullShare} M.view.writes (Elt F) f [⟨r, w⟩]) ∗ R) ⊢ B')
    {hx : (M.access r).Stores Finset.univ} {hm : Finset.univ = Finset.univ ∨ ∀ a, r.stride a = 1}
    {kk : PUnit → Prog (TpuEff nD τ sig (Elt F) Λ₀ .tc) α}
    (H : iprop(R₀ ∗ R₁ ∗ B' ∗ P) ⊢ WP c (kk ⟨⟩) Q) :
    iprop(R₀ ∗ R₁ ∗ B ∗ P) ⊢ WP c (.op (.store M r w Finset.univ hx hm) kk) Q := by
  iintro ⟨H0, H1, HB, HP⟩
  ihave HB := hin $$ HB
  icases HB with ⟨Hb, HR⟩
  iapply (wp_store_writes₀ (defs := defs₀ (F := F)) (Q := Q) 𝒱₀ (c : Thread nD τ) none Set.univ (m := M) (r := r) (w := w) (hx := hx) (hm := hm) (k := kk) (S := Finset.univ) (f := f) (Finset.subset_univ _)) $$ Hb
  iintro Hb
  iapply H
  isplitl [H0]; · iexact H0
  isplitl [H1]; · iexact H1
  isplitr [HP]
  · iapply hout; isplitl [Hb] <;> iassumption
  iexact HP

theorem step_load_x {c : Dev nD} {R₀ R₁ P : sProp 𝕄} {α : Type} {Q : α → sProp 𝕄} {fq fw fo} {r : LoadRect S2x256x512} {hl : xM.view.LoadsAt r} {kk : (r.shape.Idx → Elt F .bf16) → Prog (TpuEff nD τ sig (Elt F) Λ₀ .tc) α}
    (H : iprop(R₀ ∗ R₁ ∗ Bf m c fq fw fo ∗ P) ⊢ WP c (kk (xM.view.readAt (Elt F) r (xstg m c))) Q) :
    iprop(R₀ ∗ R₁ ∗ Bf m c fq fw fo ∗ P) ⊢ WP c (.op (.load xM r hl) kk) Q :=
  step_load_of (M := xM) (xstg m c) (R := iprop(pts c cc0_stg1_0 (wqstg m c) ∗ pts c cc0_stg2_0 (kstg m c) ∗ pts c cc0_stg3_0 (vstg m c) ∗ pts c cc0_stg4_0 (wostg m c) ∗ pts c cc0_scratch1 fq ∗ pts c cc0_scratch2 fw ∗ pts c cc0_stg5_0 fo))
    (by unfold Bf; iintro ⟨H0, H1, H2, H3, H4, H5, H6, H7⟩; isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    (by unfold Bf; iintro ⟨H0, H1, H2, H3, H4, H5, H6, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_load_wq {c : Dev nD} {R₀ R₁ P : sProp 𝕄} {α : Type} {Q : α → sProp 𝕄} {fq fw fo} {r : LoadRect S512x256} {hl : wqM.view.LoadsAt r} {kk : (r.shape.Idx → Elt F .bf16) → Prog (TpuEff nD τ sig (Elt F) Λ₀ .tc) α}
    (H : iprop(R₀ ∗ R₁ ∗ Bf m c fq fw fo ∗ P) ⊢ WP c (kk (wqM.view.readAt (Elt F) r (wqstg m c))) Q) :
    iprop(R₀ ∗ R₁ ∗ Bf m c fq fw fo ∗ P) ⊢ WP c (.op (.load wqM r hl) kk) Q :=
  step_load_of (M := wqM) (wqstg m c) (R := iprop(pts c cc0_stg0_0 (xstg m c) ∗ pts c cc0_stg2_0 (kstg m c) ∗ pts c cc0_stg3_0 (vstg m c) ∗ pts c cc0_stg4_0 (wostg m c) ∗ pts c cc0_scratch1 fq ∗ pts c cc0_scratch2 fw ∗ pts c cc0_stg5_0 fo))
    (by unfold Bf; iintro ⟨H0, H1, H2, H3, H4, H5, H6, H7⟩; isplitl [H1]; · iexact H1
        isplitl [H0]; · iexact H0
        isplitl [H2]; · iexact H2
        isplitl [H3]; · iexact H3
        isplitl [H4]; · iexact H4
        isplitl [H5]; · iexact H5
        isplitl [H6]; · iexact H6
        iexact H7)
    (by unfold Bf; iintro ⟨H1, H0, H2, H3, H4, H5, H6, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_load_k {c : Dev nD} {R₀ R₁ P : sProp 𝕄} {α : Type} {Q : α → sProp 𝕄} {fq fw fo} {r : LoadRect S2x256x4x64} {hl : kM.view.LoadsAt r} {kk : (r.shape.Idx → Elt F .bf16) → Prog (TpuEff nD τ sig (Elt F) Λ₀ .tc) α}
    (H : iprop(R₀ ∗ R₁ ∗ Bf m c fq fw fo ∗ P) ⊢ WP c (kk (kM.view.readAt (Elt F) r (kstg m c))) Q) :
    iprop(R₀ ∗ R₁ ∗ Bf m c fq fw fo ∗ P) ⊢ WP c (.op (.load kM r hl) kk) Q :=
  step_load_of (M := kM) (kstg m c) (R := iprop(pts c cc0_stg0_0 (xstg m c) ∗ pts c cc0_stg1_0 (wqstg m c) ∗ pts c cc0_stg3_0 (vstg m c) ∗ pts c cc0_stg4_0 (wostg m c) ∗ pts c cc0_scratch1 fq ∗ pts c cc0_scratch2 fw ∗ pts c cc0_stg5_0 fo))
    (by unfold Bf; iintro ⟨H0, H1, H2, H3, H4, H5, H6, H7⟩; isplitl [H2]; · iexact H2
        isplitl [H0]; · iexact H0
        isplitl [H1]; · iexact H1
        isplitl [H3]; · iexact H3
        isplitl [H4]; · iexact H4
        isplitl [H5]; · iexact H5
        isplitl [H6]; · iexact H6
        iexact H7)
    (by unfold Bf; iintro ⟨H2, H0, H1, H3, H4, H5, H6, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_load_v {c : Dev nD} {R₀ R₁ P : sProp 𝕄} {α : Type} {Q : α → sProp 𝕄} {fq fw fo} {r : LoadRect S2x256x4x64} {hl : vM.view.LoadsAt r} {kk : (r.shape.Idx → Elt F .bf16) → Prog (TpuEff nD τ sig (Elt F) Λ₀ .tc) α}
    (H : iprop(R₀ ∗ R₁ ∗ Bf m c fq fw fo ∗ P) ⊢ WP c (kk (vM.view.readAt (Elt F) r (vstg m c))) Q) :
    iprop(R₀ ∗ R₁ ∗ Bf m c fq fw fo ∗ P) ⊢ WP c (.op (.load vM r hl) kk) Q :=
  step_load_of (M := vM) (vstg m c) (R := iprop(pts c cc0_stg0_0 (xstg m c) ∗ pts c cc0_stg1_0 (wqstg m c) ∗ pts c cc0_stg2_0 (kstg m c) ∗ pts c cc0_stg4_0 (wostg m c) ∗ pts c cc0_scratch1 fq ∗ pts c cc0_scratch2 fw ∗ pts c cc0_stg5_0 fo))
    (by unfold Bf; iintro ⟨H0, H1, H2, H3, H4, H5, H6, H7⟩; isplitl [H3]; · iexact H3
        isplitl [H0]; · iexact H0
        isplitl [H1]; · iexact H1
        isplitl [H2]; · iexact H2
        isplitl [H4]; · iexact H4
        isplitl [H5]; · iexact H5
        isplitl [H6]; · iexact H6
        iexact H7)
    (by unfold Bf; iintro ⟨H3, H0, H1, H2, H4, H5, H6, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_load_wo {c : Dev nD} {R₀ R₁ P : sProp 𝕄} {α : Type} {Q : α → sProp 𝕄} {fq fw fo} {r : LoadRect S256x512} {hl : woM.view.LoadsAt r} {kk : (r.shape.Idx → Elt F .bf16) → Prog (TpuEff nD τ sig (Elt F) Λ₀ .tc) α}
    (H : iprop(R₀ ∗ R₁ ∗ Bf m c fq fw fo ∗ P) ⊢ WP c (kk (woM.view.readAt (Elt F) r (wostg m c))) Q) :
    iprop(R₀ ∗ R₁ ∗ Bf m c fq fw fo ∗ P) ⊢ WP c (.op (.load woM r hl) kk) Q :=
  step_load_of (M := woM) (wostg m c) (R := iprop(pts c cc0_stg0_0 (xstg m c) ∗ pts c cc0_stg1_0 (wqstg m c) ∗ pts c cc0_stg2_0 (kstg m c) ∗ pts c cc0_stg3_0 (vstg m c) ∗ pts c cc0_scratch1 fq ∗ pts c cc0_scratch2 fw ∗ pts c cc0_stg5_0 fo))
    (by unfold Bf; iintro ⟨H0, H1, H2, H3, H4, H5, H6, H7⟩; isplitl [H4]; · iexact H4
        isplitl [H0]; · iexact H0
        isplitl [H1]; · iexact H1
        isplitl [H2]; · iexact H2
        isplitl [H3]; · iexact H3
        isplitl [H5]; · iexact H5
        isplitl [H6]; · iexact H6
        iexact H7)
    (by unfold Bf; iintro ⟨H4, H0, H1, H2, H3, H5, H6, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_load_q {c : Dev nD} {R₀ R₁ P : sProp 𝕄} {α : Type} {Q : α → sProp 𝕄} {fq fw fo} {r : LoadRect S2x256x256} {hl : qM.view.LoadsAt r} {kk : (r.shape.Idx → Elt F .bf16) → Prog (TpuEff nD τ sig (Elt F) Λ₀ .tc) α}
    (H : iprop(R₀ ∗ R₁ ∗ Bf m c fq fw fo ∗ P) ⊢ WP c (kk (qM.view.readAt (Elt F) r fq)) Q) :
    iprop(R₀ ∗ R₁ ∗ Bf m c fq fw fo ∗ P) ⊢ WP c (.op (.load qM r hl) kk) Q :=
  step_load_of (M := qM) fq (R := iprop(pts c cc0_stg0_0 (xstg m c) ∗ pts c cc0_stg1_0 (wqstg m c) ∗ pts c cc0_stg2_0 (kstg m c) ∗ pts c cc0_stg3_0 (vstg m c) ∗ pts c cc0_stg4_0 (wostg m c) ∗ pts c cc0_scratch2 fw ∗ pts c cc0_stg5_0 fo))
    (by unfold Bf; iintro ⟨H0, H1, H2, H3, H4, H5, H6, H7⟩; isplitl [H5]; · iexact H5
        isplitl [H0]; · iexact H0
        isplitl [H1]; · iexact H1
        isplitl [H2]; · iexact H2
        isplitl [H3]; · iexact H3
        isplitl [H4]; · iexact H4
        isplitl [H6]; · iexact H6
        iexact H7)
    (by unfold Bf; iintro ⟨H5, H0, H1, H2, H3, H4, H6, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_load_w {c : Dev nD} {R₀ R₁ P : sProp 𝕄} {α : Type} {Q : α → sProp 𝕄} {fq fw fo} {r : LoadRect S2x4x256x256} {hl : wM.view.LoadsAt r} {kk : (r.shape.Idx → Elt F .bf16) → Prog (TpuEff nD τ sig (Elt F) Λ₀ .tc) α}
    (H : iprop(R₀ ∗ R₁ ∗ Bf m c fq fw fo ∗ P) ⊢ WP c (kk (wM.view.readAt (Elt F) r fw)) Q) :
    iprop(R₀ ∗ R₁ ∗ Bf m c fq fw fo ∗ P) ⊢ WP c (.op (.load wM r hl) kk) Q :=
  step_load_of (M := wM) fw (R := iprop(pts c cc0_stg0_0 (xstg m c) ∗ pts c cc0_stg1_0 (wqstg m c) ∗ pts c cc0_stg2_0 (kstg m c) ∗ pts c cc0_stg3_0 (vstg m c) ∗ pts c cc0_stg4_0 (wostg m c) ∗ pts c cc0_scratch1 fq ∗ pts c cc0_stg5_0 fo))
    (by unfold Bf; iintro ⟨H0, H1, H2, H3, H4, H5, H6, H7⟩; isplitl [H6]; · iexact H6
        isplitl [H0]; · iexact H0
        isplitl [H1]; · iexact H1
        isplitl [H2]; · iexact H2
        isplitl [H3]; · iexact H3
        isplitl [H4]; · iexact H4
        isplitl [H5]; · iexact H5
        iexact H7)
    (by unfold Bf; iintro ⟨H6, H0, H1, H2, H3, H4, H5, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_load_o {c : Dev nD} {R₀ R₁ P : sProp 𝕄} {α : Type} {Q : α → sProp 𝕄} {fq fw fo} {r : LoadRect S2x256x512} {hl : oM.view.LoadsAt r} {kk : (r.shape.Idx → Elt F .f32) → Prog (TpuEff nD τ sig (Elt F) Λ₀ .tc) α}
    (H : iprop(R₀ ∗ R₁ ∗ Bf m c fq fw fo ∗ P) ⊢ WP c (kk (oM.view.readAt (Elt F) r fo)) Q) :
    iprop(R₀ ∗ R₁ ∗ Bf m c fq fw fo ∗ P) ⊢ WP c (.op (.load oM r hl) kk) Q :=
  step_load_of (M := oM) fo (R := iprop(pts c cc0_stg0_0 (xstg m c) ∗ pts c cc0_stg1_0 (wqstg m c) ∗ pts c cc0_stg2_0 (kstg m c) ∗ pts c cc0_stg3_0 (vstg m c) ∗ pts c cc0_stg4_0 (wostg m c) ∗ pts c cc0_scratch1 fq ∗ pts c cc0_scratch2 fw))
    (by unfold Bf; iintro ⟨H0, H1, H2, H3, H4, H5, H6, H7⟩; isplitl [H7]; · iexact H7
        isplitl [H0]; · iexact H0
        isplitl [H1]; · iexact H1
        isplitl [H2]; · iexact H2
        isplitl [H3]; · iexact H3
        isplitl [H4]; · iexact H4
        isplitl [H5]; · iexact H5
        iexact H6)
    (by unfold Bf; iintro ⟨H7, H0, H1, H2, H3, H4, H5, H6⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_store_q {c : Dev nD} {R₀ R₁ P : sProp 𝕄} {α : Type} {Q : α → sProp 𝕄} {fq fw fo} {r : Rect S2x256x256} {w : r.shape.Idx → Elt F .bf16} {hx : (qM.access r).Stores Finset.univ} {hm : Finset.univ = Finset.univ ∨ ∀ a, r.stride a = 1}
    {kk : PUnit → Prog (TpuEff nD τ sig (Elt F) Λ₀ .tc) α}
    (H : iprop(R₀ ∗ R₁ ∗ Bf m c (qM.view.writes (Elt F) fq [⟨r, w⟩]) fw fo ∗ P) ⊢ WP c (kk ⟨⟩) Q) :
    iprop(R₀ ∗ R₁ ∗ Bf m c fq fw fo ∗ P) ⊢ WP c (.op (.store qM r w Finset.univ hx hm) kk) Q :=
  step_store_of (M := qM) fq (R := iprop(pts c cc0_stg0_0 (xstg m c) ∗ pts c cc0_stg1_0 (wqstg m c) ∗ pts c cc0_stg2_0 (kstg m c) ∗ pts c cc0_stg3_0 (vstg m c) ∗ pts c cc0_stg4_0 (wostg m c) ∗ pts c cc0_scratch2 fw ∗ pts c cc0_stg5_0 fo))
    (by unfold Bf; iintro ⟨H0, H1, H2, H3, H4, H5, H6, H7⟩; isplitl [H5]; · iexact H5
        isplitl [H0]; · iexact H0
        isplitl [H1]; · iexact H1
        isplitl [H2]; · iexact H2
        isplitl [H3]; · iexact H3
        isplitl [H4]; · iexact H4
        isplitl [H6]; · iexact H6
        iexact H7)
    (by unfold Bf; iintro ⟨H5, H0, H1, H2, H3, H4, H6, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_store_w {c : Dev nD} {R₀ R₁ P : sProp 𝕄} {α : Type} {Q : α → sProp 𝕄} {fq fw fo} {r : Rect S2x4x256x256} {w : r.shape.Idx → Elt F .bf16} {hx : (wM.access r).Stores Finset.univ} {hm : Finset.univ = Finset.univ ∨ ∀ a, r.stride a = 1}
    {kk : PUnit → Prog (TpuEff nD τ sig (Elt F) Λ₀ .tc) α}
    (H : iprop(R₀ ∗ R₁ ∗ Bf m c fq (wM.view.writes (Elt F) fw [⟨r, w⟩]) fo ∗ P) ⊢ WP c (kk ⟨⟩) Q) :
    iprop(R₀ ∗ R₁ ∗ Bf m c fq fw fo ∗ P) ⊢ WP c (.op (.store wM r w Finset.univ hx hm) kk) Q :=
  step_store_of (M := wM) fw (R := iprop(pts c cc0_stg0_0 (xstg m c) ∗ pts c cc0_stg1_0 (wqstg m c) ∗ pts c cc0_stg2_0 (kstg m c) ∗ pts c cc0_stg3_0 (vstg m c) ∗ pts c cc0_stg4_0 (wostg m c) ∗ pts c cc0_scratch1 fq ∗ pts c cc0_stg5_0 fo))
    (by unfold Bf; iintro ⟨H0, H1, H2, H3, H4, H5, H6, H7⟩; isplitl [H6]; · iexact H6
        isplitl [H0]; · iexact H0
        isplitl [H1]; · iexact H1
        isplitl [H2]; · iexact H2
        isplitl [H3]; · iexact H3
        isplitl [H4]; · iexact H4
        isplitl [H5]; · iexact H5
        iexact H7)
    (by unfold Bf; iintro ⟨H6, H0, H1, H2, H3, H4, H5, H7⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

theorem step_store_o {c : Dev nD} {R₀ R₁ P : sProp 𝕄} {α : Type} {Q : α → sProp 𝕄} {fq fw fo} {r : Rect S2x256x512} {w : r.shape.Idx → Elt F .f32} {hx : (oM.access r).Stores Finset.univ} {hm : Finset.univ = Finset.univ ∨ ∀ a, r.stride a = 1}
    {kk : PUnit → Prog (TpuEff nD τ sig (Elt F) Λ₀ .tc) α}
    (H : iprop(R₀ ∗ R₁ ∗ Bf m c fq fw (oM.view.writes (Elt F) fo [⟨r, w⟩]) ∗ P) ⊢ WP c (kk ⟨⟩) Q) :
    iprop(R₀ ∗ R₁ ∗ Bf m c fq fw fo ∗ P) ⊢ WP c (.op (.store oM r w Finset.univ hx hm) kk) Q :=
  step_store_of (M := oM) fo (R := iprop(pts c cc0_stg0_0 (xstg m c) ∗ pts c cc0_stg1_0 (wqstg m c) ∗ pts c cc0_stg2_0 (kstg m c) ∗ pts c cc0_stg3_0 (vstg m c) ∗ pts c cc0_stg4_0 (wostg m c) ∗ pts c cc0_scratch1 fq ∗ pts c cc0_scratch2 fw))
    (by unfold Bf; iintro ⟨H0, H1, H2, H3, H4, H5, H6, H7⟩; isplitl [H7]; · iexact H7
        isplitl [H0]; · iexact H0
        isplitl [H1]; · iexact H1
        isplitl [H2]; · iexact H2
        isplitl [H3]; · iexact H3
        isplitl [H4]; · iexact H4
        isplitl [H5]; · iexact H5
        iexact H6)
    (by unfold Bf; iintro ⟨H7, H0, H1, H2, H3, H4, H5, H6⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7)
    H

end Cert.Tree

end
-- ==== Proof.Enter.lean ====
/-
# The entry handshake

Each device signals its tree neighbours and waits for them.
-/
module

public import proofs.«01_k».proof.Proof.Buf

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- A kernel function on what the pipeline calls the body with. -/
abbrev onArgs {β : Type 1} (f : (a0 : Memref sig .tc .vmem S2x256x512 .bf16) → a0.IsWhole → (a1 : Memref sig .tc .vmem S512x256 .bf16) → a1.IsWhole
    → (a2 : Memref sig .tc .vmem S2x256x4x64 .bf16) → a2.IsWhole → (a3 : Memref sig .tc .vmem S2x256x4x64 .bf16) → a3.IsWhole
    → (a4 : Memref sig .tc .vmem S256x512 .bf16) → a4.IsWhole → (a5 : Memref sig .tc .vmem S2x256x512 .f32) → a5.IsWhole
    → (a6 : Memref sig .tc .vmem S4x256x4x64 .bf16) → a6.IsWhole → (a7 : Memref sig .tc .vmem S2x256x256 .bf16) → a7.IsWhole
    → (a8 : Memref sig .tc .vmem S2x4x256x256 .bf16) → a8.IsWhole → DmaSems sig S3x4 → DmaSems sig S4 → Sems sig S_ → β) : β :=
  f xM (Memref.isWhole_whole _) wqM (Memref.isWhole_whole _) kM (Memref.isWhole_whole _) vM (Memref.isWhole_whole _) woM (Memref.isWhole_whole _)
    oM (Memref.isWhole_whole _) kvM (Memref.isWhole_whole _) qM (Memref.isWhole_whole _) wM (Memref.isWhole_whole _) cc0_scratch3 cc0_scratch4 cc0_scoped0

theorem wp_dev (c : Dev nD) {α : Type} (k : Dev nD → Prog (TpuEff nD τ sig (Elt F) Λ₀ .tc) α) (Q : α → sProp 𝕄) :
    WP c (.op .deviceId k) Q = WP c (k c) Q := by
  rw [WP, WP, wp_deviceId]

/-- The device's own word and the leaf bit, as the body computes them. -/
def v2Of (c : Dev nD) : BitVec 32 := Scalar.remsi (Scalar.divsi (Dev.word c) 1#32) 8#32
def v9Of (c : Dev nD) : BitVec 1 :=
  Scalar.ori (Scalar.ori (Scalar.ori (Scalar.cmpi .eq (v2Of c) 2#32) (Scalar.cmpi .eq (v2Of c) 5#32)) (Scalar.cmpi .eq (v2Of c) 6#32)) (Scalar.cmpi .eq (v2Of c) 7#32)

theorem part29_0 {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ HsDone m 0 0 (sendList 0 ++ hsList 1 0) ∗ P) ⊢ WP 0 (kk ⟨0, v2Of 0, v9Of 0, SemArray.scalar (sig.barrier 0 rfl)⟩) Q) :
    iprop(Rec m ∗ Hs m 0 0 [1, 3, 4] (sendList 0 ++ hsList 1 0) ∗ P) ⊢ WP 0 (onArgs (k0_part29 (F := F)) >>= kk) Q := by
  rw [k0_part29_eq_skeleton]
  unfold k0_part29_skel onArgs
  rw [Prog.lift, Prog.bind_op, Prog.bind_op]
  rw [wp_dev]
  simp (config := {zeta := false, zetaHave := false}) only [Prog.bind_ret]
  simp (config := {zeta := false, zetaHave := false}) only [dif_pos (by decide : k0_cond1 (0 : Dev nD) = 1#1), dif_neg (by decide : ¬ k0_cond2 (0 : Dev nD) = 1#1), dif_neg (by decide : ¬ k0_cond3 (0 : Dev nD) = 1#1), dif_neg (by decide : ¬ k0_cond4 (0 : Dev nD) = 1#1), dif_neg (by decide : ¬ k0_cond5 (0 : Dev nD) = 1#1), dif_neg (by decide : ¬ k0_cond6 (0 : Dev nD) = 1#1), dif_neg (by decide : ¬ k0_cond7 (0 : Dev nD) = 1#1)]
  simp only [semSignalWord, semWaitWord, Prog.lift, Prog.bind_op, Prog.bind_ret, Prog.pure_eq_ret]
  refine step_sig m 0 1 0 rfl (by decide) rfl (congrArg Dev.tc (Fin.ext k0_dev1_eq)) (by decide) ?_
  refine step_sig m 0 3 0 rfl (by decide) rfl (congrArg Dev.tc (Fin.ext k0_dev2_eq)) (by decide) ?_
  refine step_sig m 0 4 0 rfl (by decide) rfl (congrArg Dev.tc (Fin.ext k0_dev3_eq)) (by decide) ?_
  refine step_hs m 0 0 rfl rfl (by decide) (by decide) ?_
  exact H

theorem part29_1 {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ HsDone m 1 0 (sendList 1 ++ hsList 1 1) ∗ P) ⊢ WP 1 (kk ⟨1, v2Of 1, v9Of 1, SemArray.scalar (sig.barrier 0 rfl)⟩) Q) :
    iprop(Rec m ∗ Hs m 1 0 [0, 2, 5] (sendList 1 ++ hsList 1 1) ∗ P) ⊢ WP 1 (onArgs (k0_part29 (F := F)) >>= kk) Q := by
  rw [k0_part29_eq_skeleton]
  unfold k0_part29_skel onArgs
  rw [Prog.lift, Prog.bind_op, Prog.bind_op]
  rw [wp_dev]
  simp (config := {zeta := false, zetaHave := false}) only [Prog.bind_ret]
  simp (config := {zeta := false, zetaHave := false}) only [dif_neg (by decide : ¬ k0_cond1 (1 : Dev nD) = 1#1), dif_pos (by decide : k0_cond2 (1 : Dev nD) = 1#1), dif_neg (by decide : ¬ k0_cond3 (1 : Dev nD) = 1#1), dif_neg (by decide : ¬ k0_cond4 (1 : Dev nD) = 1#1), dif_neg (by decide : ¬ k0_cond5 (1 : Dev nD) = 1#1), dif_neg (by decide : ¬ k0_cond6 (1 : Dev nD) = 1#1), dif_neg (by decide : ¬ k0_cond7 (1 : Dev nD) = 1#1)]
  simp only [semSignalWord, semWaitWord, Prog.lift, Prog.bind_op, Prog.bind_ret, Prog.pure_eq_ret]
  refine step_sig m 1 0 0 rfl (by decide) rfl (congrArg Dev.tc (Fin.ext k0_dev4_eq)) (by decide) ?_
  refine step_sig m 1 2 0 rfl (by decide) rfl (congrArg Dev.tc (Fin.ext k0_dev5_eq)) (by decide) ?_
  refine step_sig m 1 5 0 rfl (by decide) rfl (congrArg Dev.tc (Fin.ext k0_dev6_eq)) (by decide) ?_
  refine step_hs m 1 0 rfl rfl (by decide) (by decide) ?_
  exact H

theorem part29_2 {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ HsDone m 2 0 (sendList 2 ++ hsList 1 2) ∗ P) ⊢ WP 2 (kk ⟨2, v2Of 2, v9Of 2, SemArray.scalar (sig.barrier 0 rfl)⟩) Q) :
    iprop(Rec m ∗ Hs m 2 0 [1] (sendList 2 ++ hsList 1 2) ∗ P) ⊢ WP 2 (onArgs (k0_part29 (F := F)) >>= kk) Q := by
  rw [k0_part29_eq_skeleton]
  unfold k0_part29_skel onArgs
  rw [Prog.lift, Prog.bind_op, Prog.bind_op]
  rw [wp_dev]
  simp (config := {zeta := false, zetaHave := false}) only [Prog.bind_ret]
  simp (config := {zeta := false, zetaHave := false}) only [dif_neg (by decide : ¬ k0_cond1 (2 : Dev nD) = 1#1), dif_neg (by decide : ¬ k0_cond2 (2 : Dev nD) = 1#1), dif_pos (by decide : k0_cond3 (2 : Dev nD) = 1#1), dif_neg (by decide : ¬ k0_cond4 (2 : Dev nD) = 1#1), dif_neg (by decide : ¬ k0_cond5 (2 : Dev nD) = 1#1), dif_neg (by decide : ¬ k0_cond6 (2 : Dev nD) = 1#1), dif_neg (by decide : ¬ k0_cond7 (2 : Dev nD) = 1#1)]
  simp only [semSignalWord, semWaitWord, Prog.lift, Prog.bind_op, Prog.bind_ret, Prog.pure_eq_ret]
  refine step_sig m 2 1 0 rfl (by decide) rfl (congrArg Dev.tc (Fin.ext k0_dev7_eq)) (by decide) ?_
  refine step_hs m 2 0 rfl rfl (by decide) (by decide) ?_
  exact H

theorem part29_3 {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ HsDone m 3 0 (sendList 3 ++ hsList 1 3) ∗ P) ⊢ WP 3 (kk ⟨3, v2Of 3, v9Of 3, SemArray.scalar (sig.barrier 0 rfl)⟩) Q) :
    iprop(Rec m ∗ Hs m 3 0 [0, 7] (sendList 3 ++ hsList 1 3) ∗ P) ⊢ WP 3 (onArgs (k0_part29 (F := F)) >>= kk) Q := by
  rw [k0_part29_eq_skeleton]
  unfold k0_part29_skel onArgs
  rw [Prog.lift, Prog.bind_op, Prog.bind_op]
  rw [wp_dev]
  simp (config := {zeta := false, zetaHave := false}) only [Prog.bind_ret]
  simp (config := {zeta := false, zetaHave := false}) only [dif_neg (by decide : ¬ k0_cond1 (3 : Dev nD) = 1#1), dif_neg (by decide : ¬ k0_cond2 (3 : Dev nD) = 1#1), dif_neg (by decide : ¬ k0_cond3 (3 : Dev nD) = 1#1), dif_pos (by decide : k0_cond4 (3 : Dev nD) = 1#1), dif_neg (by decide : ¬ k0_cond5 (3 : Dev nD) = 1#1), dif_neg (by decide : ¬ k0_cond6 (3 : Dev nD) = 1#1), dif_neg (by decide : ¬ k0_cond7 (3 : Dev nD) = 1#1)]
  simp only [semSignalWord, semWaitWord, Prog.lift, Prog.bind_op, Prog.bind_ret, Prog.pure_eq_ret]
  refine step_sig m 3 0 0 rfl (by decide) rfl (congrArg Dev.tc (Fin.ext k0_dev8_eq)) (by decide) ?_
  refine step_sig m 3 7 0 rfl (by decide) rfl (congrArg Dev.tc (Fin.ext k0_dev9_eq)) (by decide) ?_
  refine step_hs m 3 0 rfl rfl (by decide) (by decide) ?_
  exact H

theorem part29_4 {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ HsDone m 4 0 (sendList 4 ++ hsList 1 4) ∗ P) ⊢ WP 4 (kk ⟨4, v2Of 4, v9Of 4, SemArray.scalar (sig.barrier 0 rfl)⟩) Q) :
    iprop(Rec m ∗ Hs m 4 0 [0, 6] (sendList 4 ++ hsList 1 4) ∗ P) ⊢ WP 4 (onArgs (k0_part29 (F := F)) >>= kk) Q := by
  rw [k0_part29_eq_skeleton]
  unfold k0_part29_skel onArgs
  rw [Prog.lift, Prog.bind_op, Prog.bind_op]
  rw [wp_dev]
  simp (config := {zeta := false, zetaHave := false}) only [Prog.bind_ret]
  simp (config := {zeta := false, zetaHave := false}) only [dif_neg (by decide : ¬ k0_cond1 (4 : Dev nD) = 1#1), dif_neg (by decide : ¬ k0_cond2 (4 : Dev nD) = 1#1), dif_neg (by decide : ¬ k0_cond3 (4 : Dev nD) = 1#1), dif_neg (by decide : ¬ k0_cond4 (4 : Dev nD) = 1#1), dif_pos (by decide : k0_cond5 (4 : Dev nD) = 1#1), dif_neg (by decide : ¬ k0_cond6 (4 : Dev nD) = 1#1), dif_neg (by decide : ¬ k0_cond7 (4 : Dev nD) = 1#1)]
  simp only [semSignalWord, semWaitWord, Prog.lift, Prog.bind_op, Prog.bind_ret, Prog.pure_eq_ret]
  refine step_sig m 4 0 0 rfl (by decide) rfl (congrArg Dev.tc (Fin.ext k0_dev10_eq)) (by decide) ?_
  refine step_sig m 4 6 0 rfl (by decide) rfl (congrArg Dev.tc (Fin.ext k0_dev11_eq)) (by decide) ?_
  refine step_hs m 4 0 rfl rfl (by decide) (by decide) ?_
  exact H

theorem part29_5 {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ HsDone m 5 0 (sendList 5 ++ hsList 1 5) ∗ P) ⊢ WP 5 (kk ⟨5, v2Of 5, v9Of 5, SemArray.scalar (sig.barrier 0 rfl)⟩) Q) :
    iprop(Rec m ∗ Hs m 5 0 [1] (sendList 5 ++ hsList 1 5) ∗ P) ⊢ WP 5 (onArgs (k0_part29 (F := F)) >>= kk) Q := by
  rw [k0_part29_eq_skeleton]
  unfold k0_part29_skel onArgs
  rw [Prog.lift, Prog.bind_op, Prog.bind_op]
  rw [wp_dev]
  simp (config := {zeta := false, zetaHave := false}) only [Prog.bind_ret]
  simp (config := {zeta := false, zetaHave := false}) only [dif_neg (by decide : ¬ k0_cond1 (5 : Dev nD) = 1#1), dif_neg (by decide : ¬ k0_cond2 (5 : Dev nD) = 1#1), dif_neg (by decide : ¬ k0_cond3 (5 : Dev nD) = 1#1), dif_neg (by decide : ¬ k0_cond4 (5 : Dev nD) = 1#1), dif_neg (by decide : ¬ k0_cond5 (5 : Dev nD) = 1#1), dif_pos (by decide : k0_cond6 (5 : Dev nD) = 1#1), dif_neg (by decide : ¬ k0_cond7 (5 : Dev nD) = 1#1)]
  simp only [semSignalWord, semWaitWord, Prog.lift, Prog.bind_op, Prog.bind_ret, Prog.pure_eq_ret]
  refine step_sig m 5 1 0 rfl (by decide) rfl (congrArg Dev.tc (Fin.ext k0_dev12_eq)) (by decide) ?_
  refine step_hs m 5 0 rfl rfl (by decide) (by decide) ?_
  exact H

theorem part29_6 {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ HsDone m 6 0 (sendList 6 ++ hsList 1 6) ∗ P) ⊢ WP 6 (kk ⟨6, v2Of 6, v9Of 6, SemArray.scalar (sig.barrier 0 rfl)⟩) Q) :
    iprop(Rec m ∗ Hs m 6 0 [4] (sendList 6 ++ hsList 1 6) ∗ P) ⊢ WP 6 (onArgs (k0_part29 (F := F)) >>= kk) Q := by
  rw [k0_part29_eq_skeleton]
  unfold k0_part29_skel onArgs
  rw [Prog.lift, Prog.bind_op, Prog.bind_op]
  rw [wp_dev]
  simp (config := {zeta := false, zetaHave := false}) only [Prog.bind_ret]
  simp (config := {zeta := false, zetaHave := false}) only [dif_neg (by decide : ¬ k0_cond1 (6 : Dev nD) = 1#1), dif_neg (by decide : ¬ k0_cond2 (6 : Dev nD) = 1#1), dif_neg (by decide : ¬ k0_cond3 (6 : Dev nD) = 1#1), dif_neg (by decide : ¬ k0_cond4 (6 : Dev nD) = 1#1), dif_neg (by decide : ¬ k0_cond5 (6 : Dev nD) = 1#1), dif_neg (by decide : ¬ k0_cond6 (6 : Dev nD) = 1#1), dif_pos (by decide : k0_cond7 (6 : Dev nD) = 1#1)]
  simp only [semSignalWord, semWaitWord, Prog.lift, Prog.bind_op, Prog.bind_ret, Prog.pure_eq_ret]
  refine step_sig m 6 4 0 rfl (by decide) rfl (congrArg Dev.tc (Fin.ext k0_dev13_eq)) (by decide) ?_
  refine step_hs m 6 0 rfl rfl (by decide) (by decide) ?_
  exact H

theorem part29_7 {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ Hs m 7 0 [3] (sendList 7 ++ hsList 1 7) ∗ P) ⊢ WP 7 (kk ⟨7, v2Of 7, v9Of 7, SemArray.scalar (sig.barrier 0 rfl)⟩) Q) :
    iprop(Rec m ∗ Hs m 7 0 [3] (sendList 7 ++ hsList 1 7) ∗ P) ⊢ WP 7 (onArgs (k0_part29 (F := F)) >>= kk) Q := by
  rw [k0_part29_eq_skeleton]
  unfold k0_part29_skel onArgs
  rw [Prog.lift, Prog.bind_op, Prog.bind_op]
  rw [wp_dev]
  simp (config := {zeta := false, zetaHave := false}) only [Prog.bind_ret]
  simp (config := {zeta := false, zetaHave := false}) only [dif_neg (by decide : ¬ k0_cond1 (7 : Dev nD) = 1#1), dif_neg (by decide : ¬ k0_cond2 (7 : Dev nD) = 1#1), dif_neg (by decide : ¬ k0_cond3 (7 : Dev nD) = 1#1), dif_neg (by decide : ¬ k0_cond4 (7 : Dev nD) = 1#1), dif_neg (by decide : ¬ k0_cond5 (7 : Dev nD) = 1#1), dif_neg (by decide : ¬ k0_cond6 (7 : Dev nD) = 1#1), dif_neg (by decide : ¬ k0_cond7 (7 : Dev nD) = 1#1)]
  simp only [semSignalWord, semWaitWord, Prog.lift, Prog.bind_op, Prog.bind_ret, Prog.pure_eq_ret]
  exact H

end Cert.Tree

end
-- ==== Proof.Chunks.lean ====
/-
# The chunks before and after the transfers

What the entry handshake brings, the chunk buffer taken apart and put together, and what is left at the end.
-/
module

public import proofs.«01_k».proof.Proof.Enter
public import Idealize.ShloMosaic.Lib.Ring
public import Idealize.ShloMosaic.Lib.Pipeline.ValueKit

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## From the entry handshake to the chunks -/

/-- A departure before the entry handshake: what it lacks is the child's buffer. -/
def prePiece (c : Dev nD) (k : Fin 4) (j : Fin 3) : sProp 𝕄 :=
  if j.val < nch c then
    iprop(dutyTok ER (kcell (c, iSend j k)) 0 c ∗ dutyTok ER (kcell (child c j, iRecv k)) 0 c ∗ atPos ER (kcell (c, iSend j k)) 0 ∅ 0)
  else semVal (kcell (c, iSend j k)) 0

/-- What a device holds of the chunks before the entry handshake. -/
def Pre (c : Dev nD) : sProp 𝕄 :=
  iprop((bigSep Finset.univ fun kj : Fin 4 × Fin 3 => prePiece (F := F) c kj.1 kj.2) ∗ bigSep Finset.univ fun k : Fin 4 => keepPiece m c k 0)

/-- A child's chunk, as its parent gets it. -/
def kidChunk (c : Dev nD) (k : Fin 4) (j : Fin 3) : sProp 𝕄 := if j.val < nch c then iprop(∃ f, chPts (F := F) (child c j) k fullShare f) else iprop(emp)

/-- The neighbours' payments at the entry hold every child's buffer. -/
theorem kids_in (c : Dev nD) :
    (bigSep (dut c 0) fun d => pay (F := F) m c 0 d) ⊢ bigSep Finset.univ fun kj : Fin 4 × Fin 3 => kidChunk (F := F) c kj.1 kj.2 := by
  have hsub : (Finset.univ.filter fun j : Fin 3 => j.val < nch c).image (child c) ⊆ dut c 0 := by revert c; decide
  have hinj : Set.InjOn (child c) (Finset.univ.filter fun j : Fin 3 => j.val < nch c) := by
    have h : ∀ a ∈ (Finset.univ.filter fun j : Fin 3 => j.val < nch c), ∀ b ∈ (Finset.univ.filter fun j : Fin 3 => j.val < nch c), child c a = child c b → a = b := by
      revert c; decide
    exact fun a ha b hb e => h a (Finset.mem_coe.mp ha) b (Finset.mem_coe.mp hb) e
  rw [bigSep_univ_prod (fun kj : Fin 4 × Fin 3 => kidChunk (F := F) c kj.1 kj.2), bigSep_univ_comm]
  have h1 : (bigSep (dut c 0) fun d => pay (F := F) m c 0 d) ⊢ bigSep ((Finset.univ.filter fun j : Fin 3 => j.val < nch c).image (child c)) fun d => pay (F := F) m c 0 d := bigSep_subset hsub
  refine h1.trans (Entails.of_eq ?_)
  rw [bigSep_image_of_injOn hinj, bigSep_filter]
  refine bigSep_congr fun j _ => ?_
  unfold kidChunk
  by_cases hj : j.val < nch c
  · have h := par_child c j hj
    simp only [if_pos hj]
    unfold pay kvAny
    rw [if_pos (show (0 : Fin 18).val = 0 from rfl), if_pos ⟨h.2, h.1⟩]
  · simp only [if_neg hj]
    exact (bigSep_emp_const _).symm

theorem piece_start (c : Dev nD) (k : Fin 4) (j : Fin 3) : iprop(prePiece (F := F) c k j ∗ kidChunk (F := F) c k j) ⊢ sendPiece m c k j 0 := by
  have e0 : sendPiece m c k j 0 = if j.val < nch c then iprop(dutyTok ER (kcell (c, iSend j k)) 0 c ∗ dutyTok ER (kcell (child c j, iRecv k)) 0 c ∗ atPos ER (kcell (c, iSend j k)) 0 ∅ 0
        ∗ ∃ f, chPts (child c j) k fullShare f) else semVal (kcell (c, iSend j k)) 0 := rfl
  rw [e0]
  unfold prePiece kidChunk
  split
  · iintro ⟨⟨H1, H2, H3⟩, H4⟩
    isplitl [H1]; · iexact H1
    isplitl [H2]; · iexact H2
    isplitl [H3] <;> iassumption
  · iintro ⟨H, -⟩; iexact H

/-- After the entry handshake a device has all its transfers need. -/
theorem toTr (c : Dev nD) (l : List (Dev nD × Fin 18)) :
    iprop(HsDone m c 0 l ∗ Pre m c) ⊢ iprop(Tr m c l (fun _ => 0) (fun _ => 0) ∗ semVal (kcell (c, 0)) 0) := by
  have hm : (bigSep Finset.univ fun kj : Fin 4 × Fin 3 => iprop(prePiece (F := F) c kj.1 kj.2 ∗ kidChunk (F := F) c kj.1 kj.2))
      ⊢ bigSep Finset.univ fun kj : Fin 4 × Fin 3 => sendPiece m c kj.1 kj.2 0 := bigSep_mono fun kj _ => piece_start m c kj.1 kj.2
  unfold HsDone Pre Tr
  iintro ⟨⟨HO, Hz, Hp⟩, Hs, Hk⟩
  ihave Hp := (kids_in m c) $$ Hp
  isplitr [Hz]
  · isplitl [HO]; · iexact HO
    isplitr [Hk]
    · iapply hm
      iapply (Entails.of_eq (bigSep_sep' Finset.univ (fun kj : Fin 4 × Fin 3 => prePiece (F := F) c kj.1 kj.2) (fun kj => kidChunk (F := F) c kj.1 kj.2)).symm)
      isplitl [Hs] <;> iassumption
    iexact Hk
  iexact Hz

/-! ## The chunk buffer, whole and in chunks -/

theorem mem_chunk (k : Fin 4) (i : S4x256x4x64.Idx) : i ∈ (chM k).view.set ↔ (i 0).val = k.val := by
  rw [chunk_set]
  refine ValueKit.mem_set_slice_whole_iff cc0_scratch0 (rk k) i (Rect.mem_set_unit.trans ?_)
  constructor
  · intro h
    have h0 := h 0
    have e1 : (![k.val, 0, 0, 0] : Fin 4 → ℕ) 0 = k.val := rfl
    have e2 : S1x256x4x64.size 0 = 1 := rfl
    omega
  · intro h a
    fin_cases a
    · exact ⟨le_of_eq h.symm, by show (i 0).val < k.val + 1; omega⟩
    · exact ⟨Nat.zero_le _, by have : (i 1).val < 256 := (i 1).isLt; show (i 1).val < 0 + 256; omega⟩
    · exact ⟨Nat.zero_le _, by have : (i 2).val < 4 := (i 2).isLt; show (i 2).val < 0 + 4; omega⟩
    · exact ⟨Nat.zero_le _, by have : (i 3).val < 64 := (i 3).isLt; show (i 3).val < 0 + 64; omega⟩

theorem chunk_disjoint (k k' : Fin 4) (h : k ≠ k') : Disjoint (chM k).view.set (chM k').view.set :=
  Finset.disjoint_left.mpr fun i hi hi' => h (Fin.ext (((mem_chunk k i).mp hi).symm.trans ((mem_chunk k' i).mp hi')))

/-- A chunk's elements, as indices of the buffer. -/
abbrev chSet (k : Fin 4) : Finset S4x256x4x64.Idx := (chM k).view.set

theorem chunk_cover : (Finset.univ.biUnion chSet) = Finset.univ := by
  refine Finset.eq_univ_iff_forall.mpr fun i => ?_
  exact Finset.mem_biUnion.mpr ⟨i 0, Finset.mem_univ _, (mem_chunk (i 0) i).mpr rfl⟩

theorem kv_split (c : Dev nD) (f : (cc0_scratch0 : Ref sig .tc).ty.Contents (Elt F)) : (pts c cc0_scratch0 f : sProp 𝕄) ⊢ kvAny (F := F) c := by
  unfold kvAny
  refine (Entails.of_eq (Ring.pointsTo_blocks (ℓ := (c : Thread nD τ).loc cc0_scratch0) chSet chunk_disjoint chunk_cover f)).trans ?_
  have h (k : Fin 4) : (((c : Thread nD τ).loc cc0_scratch0) ↦[chSet k]{fullShare} f : sProp 𝕄) ⊢ iprop(∃ f, chPts (F := F) c k fullShare f) := by
    iintro H
    iexists f
    unfold chPts
    iexact H
  exact bigSep_mono fun k _ => h k

theorem kv_join (c : Dev nD) (f₀ : (cc0_scratch0 : Ref sig .tc).ty.Contents (Elt F)) : (kvAny (F := F) c) ⊢ iprop(∃ f, pts (F := F) c cc0_scratch0 f) := by
  unfold kvAny chPts
  exact Ring.pointsTo_blocks_join_exists (ℓ := (c : Thread nD τ).loc cc0_scratch0) chSet chunk_disjoint chunk_cover
    f₀

/-! ## When every chunk has come and gone -/

/-- Every departure over. -/
def doneT (c : Dev nD) : Fin 4 × Fin 3 → ℕ := fun kj => if kj.2.val < nch c then 3 else 1

theorem piece_done (c : Dev nD) (k : Fin 4) (j : Fin 3) :
    sendPiece m c k j (doneT c (k, j)) = iprop(semVal (kcell (c, iSend j k)) 0 ∗ chPts c k (shSend j) (KV m k)) := by
  unfold sendPiece doneT
  by_cases h : j.val < nch c
  · simp only [if_pos h]
  · simp only [if_neg h]

/-- The semaphores of the chunks, all at rest. -/
def chSems (c : Dev nD) : sProp 𝕄 :=
  iprop((bigSep Finset.univ fun kj : Fin 4 × Fin 3 => semVal (kcell (c, iSend kj.2 kj.1)) 0) ∗ bigSep Finset.univ fun k : Fin 4 => semVal (kcell (c, iRecv k)) 0)

theorem fromTr (c : Dev nD) (l : List (Dev nD × Fin 18)) :
    (Tr m c l (doneT c) (fun _ => 1)) ⊢ iprop(owesE c l ∗ chSems (F := F) c ∗ ∃ f, pts (F := F) c cc0_scratch0 f) := by
  have e1 : (bigSep Finset.univ fun kj : Fin 4 × Fin 3 => sendPiece m c kj.1 kj.2 (doneT c kj))
      = iprop((bigSep Finset.univ fun kj : Fin 4 × Fin 3 => semVal (kcell (c, iSend kj.2 kj.1)) 0)
        ∗ bigSep Finset.univ fun k : Fin 4 => iprop(chPts c k (shSend 0) (KV m k) ∗ chPts c k (shSend 1) (KV m k) ∗ chPts c k (shSend 2) (KV m k))) := by
    rw [bigSep_congr (fun kj _ => piece_done m c kj.1 kj.2), bigSep_sep', bigSep_univ_prod (fun kj : Fin 4 × Fin 3 => chPts c kj.1 (shSend kj.2) (KV m kj.1)),
      bigSep_congr (fun k _ => bigSep_fin3 (F := F) (fun j => chPts c k (shSend j) (KV m k)))]
  have e2 : (bigSep Finset.univ fun k : Fin 4 => keepPiece m c k 1)
      = iprop((bigSep Finset.univ fun k : Fin 4 => semVal (kcell (c, iRecv k)) 0) ∗ bigSep Finset.univ fun k : Fin 4 => chPts c k shKeep (KV m k)) := by
    rw [← bigSep_sep']; rfl
  have hm : (bigSep Finset.univ fun k : Fin 4 => iprop(chPts c k shKeep (KV m k) ∗ (chPts c k (shSend 0) (KV m k) ∗ chPts c k (shSend 1) (KV m k) ∗ chPts c k (shSend 2) (KV m k))))
      ⊢ bigSep Finset.univ fun k : Fin 4 => iprop(∃ f, chPts (F := F) c k fullShare f) := bigSep_mono fun k _ => by
    refine (chunk_split c k (KV m k)).2.trans ?_
    iintro H; iexists _; iexact H
  unfold Tr chSems
  rw [e1, e2]
  iintro ⟨HO, ⟨Hs, Hc⟩, Hr, Hk⟩
  isplitl [HO]; · iexact HO
  isplitl [Hs Hr]; · isplitl [Hs] <;> iassumption
  iapply (kv_join c (KV m 0))
  unfold kvAny
  iapply hm
  iapply (Entails.of_eq (bigSep_sep' Finset.univ (fun k : Fin 4 => chPts c k shKeep (KV m k)) (fun k => iprop(chPts c k (shSend 0) (KV m k) ∗ chPts c k (shSend 1) (KV m k) ∗ chPts c k (shSend 2) (KV m k)))).symm)
  isplitl [Hk] <;> iassumption

end Cert.Tree

end
-- ==== Proof.Move.lean ====
/-
# Moving the chunks

The transfers down the tree and the queries each device computes meanwhile.
-/
module

public import proofs.«01_k».proof.Proof.Chunks

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The query buffer -/

abbrev rx0 : Rect S2x256x512 := Rect.unit (s := S2x256x512) ![0, 0, 0] S1x256x512.size inb_S2x256x512_S1x256x512_0_0_0
abbrev rx1 : Rect S2x256x512 := Rect.unit (s := S2x256x512) ![1, 0, 0] S1x256x512.size inb_S2x256x512_S1x256x512_1_0_0
abbrev rwq : Rect S512x256 := Rect.unit (s := S512x256) ![0, 0] S512x256.size inb_S512x256_S512x256_0_0
abbrev rq0 : Rect S2x256x256 := Rect.unit (s := S2x256x256) ![0, 0, 0] S1x256x256.size inb_S2x256x256_S1x256x256_0_0_0
abbrev rq1 : Rect S2x256x256 := Rect.unit (s := S2x256x256) ![1, 0, 0] S1x256x256.size inb_S2x256x256_S1x256x256_1_0_0

/-- One batch's scaled queries, from the projection and the batch's block of `x`. -/
def qPay (wq : Vec F S512x256 .bf16) (x : Vec F S1x256x512 .bf16) : FVec F S1x256x256 .bf16 := k0_pay18 wq x

/-- What device `c` stores into its query buffer. -/
def qL (c : Dev nD) : List (View.Piece (Elt F) S2x256x256 .bf16) :=
  [⟨rq1, qPay (wqM.view.readAt (Elt F) rwq.toLoadRect (wqstg m c)) (xM.view.readAt (Elt F) rx1.toLoadRect (xstg m c))⟩,
   ⟨rq0, qPay (wqM.view.readAt (Elt F) rwq.toLoadRect (wqstg m c)) (xM.view.readAt (Elt F) rx0.toLoadRect (xstg m c))⟩]

/-- The query buffer of device `c`, filled. -/
def qC (c : Dev nD) : (cc0_scratch1 : Ref sig .tc).ty.Contents (Elt F) := qM.view.writes (Elt F) (m ((c : Thread nD τ).loc cc0_scratch1)) (qL m c)

/-- A whole buffer written all over holds the same whatever it held before. -/
theorem writes_all (b : Ref sig .tc) (f f' : b.ty.Contents (Elt F)) (L : List (View.Piece (Elt F) b.ty.shape b.ty.elt))
    (h : ∀ y, ∃ p ∈ L, y ∈ p.1.set) : (View.whole b).writes (Elt F) f L = (View.whole b).writes (Elt F) f' L := by
  have e := View.read_writes_of_cover (View.whole b) f (View.whole b) f' L h
  rwa [View.read_whole, View.read_whole] at e

theorem pay6_eq (wq : Vec F S512x256 .bf16) : k0_pay6 (F := F) (k0_pay5 wq) = qPay wq := rfl
theorem pay7_eq (wq : Vec F S512x256 .bf16) : k0_pay7 (F := F) (k0_pay5 wq) = qPay wq := rfl
theorem pay9_eq (wq : Vec F S512x256 .bf16) : k0_pay9 (F := F) (k0_pay8 wq) = qPay wq := rfl
theorem pay10_eq (wq : Vec F S512x256 .bf16) : k0_pay10 (F := F) (k0_pay8 wq) = qPay wq := rfl
theorem pay12_eq : k0_pay12 (F := F) = qPay := rfl
theorem pay13_eq : k0_pay13 (F := F) = qPay := rfl
theorem pay15_eq : k0_pay15 (F := F) = qPay := rfl
theorem pay16_eq : k0_pay16 (F := F) = qPay := rfl
theorem pay18_eq : k0_pay18 (F := F) = qPay := rfl
theorem pay19_eq : k0_pay19 (F := F) = qPay := rfl

theorem q_cover (w0 w1 : Vec F S1x256x256 .bf16) : ∀ y : S2x256x256.Idx, ∃ p ∈ ([⟨rq1, w1⟩, ⟨rq0, w0⟩] : List (View.Piece (Elt F) S2x256x256 .bf16)), y ∈ p.1.set :=
  View.cover_of_tiled _ S1x256x256.size rfl

/-- Two stores one after the other. -/
theorem writes_two {sg : RefSig} {κ : Kind} {sp : Space} {s : Shape} {e : EltTy} (v : View sg κ sp s e) (Val : EltTy → Type) (f : v.ty.Contents Val) (p q : View.Piece Val s e) :
    v.writes Val (v.writes Val f [p]) [q] = v.writes Val f [q, p] := rfl

theorem q_full (f f' : (cc0_scratch1 : Ref sig .tc).ty.Contents (Elt F)) (w0 w1 : Vec F S1x256x256 .bf16) :
    qM.view.writes (Elt F) (qM.view.writes (Elt F) f [⟨rq0, w0⟩]) [⟨rq1, w1⟩] = qM.view.writes (Elt F) f' [⟨rq1, w1⟩, ⟨rq0, w0⟩] :=
  (writes_two qM.view (Elt F) f ⟨rq0, w0⟩ ⟨rq1, w1⟩).trans (writes_all cc0_scratch1 f f' [⟨rq1, w1⟩, ⟨rq0, w0⟩] (q_cover w0 w1))

theorem q_filled (c : Dev nD) (f : (cc0_scratch1 : Ref sig .tc).ty.Contents (Elt F)) {w0 w1 : Vec F S1x256x256 .bf16}
    (h0 : w0 = qPay (wqM.view.readAt (Elt F) rwq.toLoadRect (wqstg m c)) (xM.view.readAt (Elt F) rx0.toLoadRect (xstg m c)))
    (h1 : w1 = qPay (wqM.view.readAt (Elt F) rwq.toLoadRect (wqstg m c)) (xM.view.readAt (Elt F) rx1.toLoadRect (xstg m c))) :
    qM.view.writes (Elt F) (qM.view.writes (Elt F) f [⟨rq0, w0⟩]) [⟨rq1, w1⟩] = qC m c := by
  unfold qC qL
  rw [← h0, ← h1]
  exact q_full f _ w0 w1

/-- The chunks after the entry handshake; its closed cell is put by. -/
theorem enter (c : Dev nD) {fq fw fo} {l : List (Dev nD × Fin 18)} {P : sProp 𝕄} {α : Type} {Q : α → sProp 𝕄} {p : Prog (TpuEff nD τ sig (Elt F) Λ₀ .tc) α}
    (H : iprop(Rec m ∗ Tr m c l (fun _ => 0) (fun _ => 0) ∗ Bf m c fq fw fo ∗ semVal (kcell (c, 0)) 0 ∗ P) ⊢ WP c p Q) :
    iprop(Rec m ∗ HsDone m c 0 l ∗ Bf m c fq fw fo ∗ Pre m c ∗ P) ⊢ WP c p Q := by
  iintro ⟨HR, Hd, HB, Hp, HP⟩
  ihave Ht := (toTr m c l) $$ [Hd Hp]
  · isplitl [Hd] <;> iassumption
  icases Ht with ⟨Ht, Hz⟩
  iapply H
  isplitl [HR]; · iexact HR
  isplitl [Ht]; · iexact Ht
  isplitl [HB]; · iexact HB
  isplitl [Hz] <;> iassumption

/-- The query buffer once both batches are stored. -/
theorem step_q {c : Dev nD} {R₀ R₁ P : sProp 𝕄} {α : Type} {Q : α → sProp 𝕄} {p : Prog (TpuEff nD τ sig (Elt F) Λ₀ .tc) α} {fq fq' fw fo} (h : fq = fq') (H : iprop(R₀ ∗ R₁ ∗ Bf m c fq' fw fo ∗ P) ⊢ WP c p Q) :
    iprop(R₀ ∗ R₁ ∗ Bf m c fq fw fo ∗ P) ⊢ WP c p Q := by subst h; exact H

/-- The statuses, read off. -/
theorem step_tr {c : Dev nD} {P : sProp 𝕄} {α : Type} {Q : α → sProp 𝕄} {p : Prog (TpuEff nD τ sig (Elt F) Λ₀ .tc) α} {l T T' A A'} (hT : ∀ k j, T (k, j) = T' (k, j)) (hA : ∀ k, A k = A' k) (H : iprop(Rec m ∗ Tr m c l T' A' ∗ P) ⊢ WP c p Q) :
    iprop(Rec m ∗ Tr m c l T A ∗ P) ⊢ WP c p Q := by
  have e1 : T = T' := funext fun ⟨k, j⟩ => hT k j
  have e2 : A = A' := funext hA
  subst e1; subst e2; exact H

/-- What the second part of the body returns. -/
abbrev Ret30 : Type := Σ' (_ : IVec S256x256 32) (_ : IVec S256x256 1) (_ : IVec S256x256 32), IVec S256x256 32

theorem part30_2 {fq fw fo} {P : sProp 𝕄} {α : Type} {Q : α → sProp 𝕄} {kk : Ret30 → Prog (TpuEff nD τ sig (Elt F) Λ₀ .tc) α}
    (H : iprop(Rec m ∗ Tr m 2 (hsList 1 2) (fun _ => 0) (fun _ => 0) ∗ Bf m 2 (qC m 2) fw fo ∗ P) ⊢ WP 2 (kk ⟨k0_pay20, k0_pay21, k0_pay22, k0_pay23⟩) Q) :
    iprop(Rec m ∗ Tr m 2 (hsList 1 2) (fun _ => 0) (fun _ => 0) ∗ Bf m 2 fq fw fo ∗ P)
      ⊢ WP 2 (onArgs (k0_part30 (F := F)) 2 (v2Of 2) (v9Of 2) (SemArray.scalar (sig.barrier 0 rfl)) >>= kk) Q := by
  rw [k0_part30_eq_skeleton]
  unfold k0_part30_skel onArgs
  simp (config := {zeta := false, zetaHave := false}) only [dif_neg (by decide : ¬ k0_cond8 (2 : Dev nD) = 1#1), dif_neg (by decide : ¬ k0_cond9 (2 : Dev nD) = 1#1), dif_neg (by decide : ¬ k0_cond11 (2 : Dev nD) = 1#1), dif_neg (by decide : ¬ k0_cond12 (2 : Dev nD) = 1#1), dif_neg (by decide : ¬ k0_cond13 (2 : Dev nD) = 1#1), dif_pos (by decide : Scalar.cmpi .ne (Scalar.extui (v9Of 2)) 0#32 = 1#1)]
  simp only [semSignalWord, semWaitWord, Prog.lift, Prog.bind_op, Prog.bind_ret, Prog.pure_eq_ret]
  refine step_load_wq m ?_
  refine step_load_x m ?_
  refine step_load_q m ?_
  refine step_store_q m ?_
  refine step_load_x m ?_
  refine step_load_q m ?_
  refine step_store_q m ?_
  refine step_q m (q_filled m 2 fq (congrFun (congrFun pay18_eq _) _) (congrFun (congrFun pay19_eq _) _)) ?_
  exact H

theorem part30_5 {fq fw fo} {P : sProp 𝕄} {α : Type} {Q : α → sProp 𝕄} {kk : Ret30 → Prog (TpuEff nD τ sig (Elt F) Λ₀ .tc) α}
    (H : iprop(Rec m ∗ Tr m 5 (hsList 1 5) (fun _ => 0) (fun _ => 0) ∗ Bf m 5 (qC m 5) fw fo ∗ P) ⊢ WP 5 (kk ⟨k0_pay20, k0_pay21, k0_pay22, k0_pay23⟩) Q) :
    iprop(Rec m ∗ Tr m 5 (hsList 1 5) (fun _ => 0) (fun _ => 0) ∗ Bf m 5 fq fw fo ∗ P)
      ⊢ WP 5 (onArgs (k0_part30 (F := F)) 5 (v2Of 5) (v9Of 5) (SemArray.scalar (sig.barrier 0 rfl)) >>= kk) Q := by
  rw [k0_part30_eq_skeleton]
  unfold k0_part30_skel onArgs
  simp (config := {zeta := false, zetaHave := false}) only [dif_neg (by decide : ¬ k0_cond8 (5 : Dev nD) = 1#1), dif_neg (by decide : ¬ k0_cond9 (5 : Dev nD) = 1#1), dif_neg (by decide : ¬ k0_cond11 (5 : Dev nD) = 1#1), dif_neg (by decide : ¬ k0_cond12 (5 : Dev nD) = 1#1), dif_neg (by decide : ¬ k0_cond13 (5 : Dev nD) = 1#1), dif_pos (by decide : Scalar.cmpi .ne (Scalar.extui (v9Of 5)) 0#32 = 1#1)]
  simp only [semSignalWord, semWaitWord, Prog.lift, Prog.bind_op, Prog.bind_ret, Prog.pure_eq_ret]
  refine step_load_wq m ?_
  refine step_load_x m ?_
  refine step_load_q m ?_
  refine step_store_q m ?_
  refine step_load_x m ?_
  refine step_load_q m ?_
  refine step_store_q m ?_
  refine step_q m (q_filled m 5 fq (congrFun (congrFun pay18_eq _) _) (congrFun (congrFun pay19_eq _) _)) ?_
  exact H

theorem part30_6 {fq fw fo} {P : sProp 𝕄} {α : Type} {Q : α → sProp 𝕄} {kk : Ret30 → Prog (TpuEff nD τ sig (Elt F) Λ₀ .tc) α}
    (H : iprop(Rec m ∗ Tr m 6 (hsList 1 6) (fun _ => 0) (fun _ => 0) ∗ Bf m 6 (qC m 6) fw fo ∗ P) ⊢ WP 6 (kk ⟨k0_pay20, k0_pay21, k0_pay22, k0_pay23⟩) Q) :
    iprop(Rec m ∗ Tr m 6 (hsList 1 6) (fun _ => 0) (fun _ => 0) ∗ Bf m 6 fq fw fo ∗ P)
      ⊢ WP 6 (onArgs (k0_part30 (F := F)) 6 (v2Of 6) (v9Of 6) (SemArray.scalar (sig.barrier 0 rfl)) >>= kk) Q := by
  rw [k0_part30_eq_skeleton]
  unfold k0_part30_skel onArgs
  simp (config := {zeta := false, zetaHave := false}) only [dif_neg (by decide : ¬ k0_cond8 (6 : Dev nD) = 1#1), dif_neg (by decide : ¬ k0_cond9 (6 : Dev nD) = 1#1), dif_neg (by decide : ¬ k0_cond11 (6 : Dev nD) = 1#1), dif_neg (by decide : ¬ k0_cond12 (6 : Dev nD) = 1#1), dif_neg (by decide : ¬ k0_cond13 (6 : Dev nD) = 1#1), dif_pos (by decide : Scalar.cmpi .ne (Scalar.extui (v9Of 6)) 0#32 = 1#1)]
  simp only [semSignalWord, semWaitWord, Prog.lift, Prog.bind_op, Prog.bind_ret, Prog.pure_eq_ret]
  refine step_load_wq m ?_
  refine step_load_x m ?_
  refine step_load_q m ?_
  refine step_store_q m ?_
  refine step_load_x m ?_
  refine step_load_q m ?_
  refine step_store_q m ?_
  refine step_q m (q_filled m 6 fq (congrFun (congrFun pay18_eq _) _) (congrFun (congrFun pay19_eq _) _)) ?_
  exact H

theorem part30_7 {fq fw fo} {P : sProp 𝕄} {α : Type} {Q : α → sProp 𝕄} {kk : Ret30 → Prog (TpuEff nD τ sig (Elt F) Λ₀ .tc) α}
    (H : iprop(Rec m ∗ Tr m 7 (hsList 1 7) (fun _ => 0) (fun _ => 0) ∗ Bf m 7 (qC m 7) fw fo ∗ semVal (kcell (7, 0)) 0 ∗ P) ⊢ WP 7 (kk ⟨k0_pay20, k0_pay21, k0_pay22, k0_pay23⟩) Q) :
    iprop(Rec m ∗ Hs m 7 0 [3] (sendList 7 ++ hsList 1 7) ∗ Bf m 7 fq fw fo ∗ Pre m 7 ∗ P)
      ⊢ WP 7 (onArgs (k0_part30 (F := F)) 7 (v2Of 7) (v9Of 7) (SemArray.scalar (sig.barrier 0 rfl)) >>= kk) Q := by
  rw [k0_part30_eq_skeleton]
  unfold k0_part30_skel onArgs
  simp (config := {zeta := false, zetaHave := false}) only [dif_pos (by decide : k0_cond8 (7 : Dev nD) = 1#1), dif_neg (by decide : ¬ k0_cond9 (7 : Dev nD) = 1#1), dif_neg (by decide : ¬ k0_cond11 (7 : Dev nD) = 1#1), dif_neg (by decide : ¬ k0_cond12 (7 : Dev nD) = 1#1), dif_neg (by decide : ¬ k0_cond13 (7 : Dev nD) = 1#1), dif_pos (by decide : Scalar.cmpi .ne (Scalar.extui (v9Of 7)) 0#32 = 1#1)]
  simp only [semSignalWord, semWaitWord, Prog.lift, Prog.bind_op, Prog.bind_ret, Prog.pure_eq_ret]
  refine step_sig m 7 3 0 rfl (by decide) rfl (congrArg Dev.tc (Fin.ext k0_dev14_eq)) (by decide) ?_
  refine step_hs m 7 0 rfl rfl (by decide) (by decide) ?_
  refine enter m 7 ?_
  refine step_load_wq m ?_
  refine step_load_x m ?_
  refine step_load_q m ?_
  refine step_store_q m ?_
  refine step_load_x m ?_
  refine step_load_q m ?_
  refine step_store_q m ?_
  refine step_q m (q_filled m 7 fq (congrFun (congrFun pay18_eq _) _) (congrFun (congrFun pay19_eq _) _)) ?_
  exact H

theorem part30_3 {fq fw fo} {P : sProp 𝕄} {α : Type} {Q : α → sProp 𝕄} {kk : Ret30 → Prog (TpuEff nD τ sig (Elt F) Λ₀ .tc) α}
    (H : iprop(Rec m ∗ Tr m 3 (hsList 1 3) (doneT 3) (fun _ => 1) ∗ Bf m 3 (qC m 3) fw fo ∗ P) ⊢ WP 3 (kk ⟨k0_pay20, k0_pay21, k0_pay22, k0_pay23⟩) Q) :
    iprop(Rec m ∗ Tr m 3 (sendList 3 ++ hsList 1 3) (fun _ => 0) (fun _ => 0) ∗ Bf m 3 fq fw fo ∗ P)
      ⊢ WP 3 (onArgs (k0_part30 (F := F)) 3 (v2Of 3) (v9Of 3) (SemArray.scalar (sig.barrier 0 rfl)) >>= kk) Q := by
  rw [k0_part30_eq_skeleton]
  unfold k0_part30_skel onArgs
  simp (config := {zeta := false, zetaHave := false}) only [dif_neg (by decide : ¬ k0_cond8 (3 : Dev nD) = 1#1), dif_neg (by decide : ¬ k0_cond9 (3 : Dev nD) = 1#1), dif_neg (by decide : ¬ k0_cond11 (3 : Dev nD) = 1#1), dif_pos (by decide : k0_cond12 (3 : Dev nD) = 1#1), dif_neg (by decide : ¬ k0_cond13 (3 : Dev nD) = 1#1), dif_neg (by decide : ¬ Scalar.cmpi .ne (Scalar.extui (v9Of 3)) 0#32 = 1#1)]
  simp only [Prog.lift, Prog.bind_op, Prog.bind_ret, Prog.pure_eq_ret, Prog.bind_assoc]
  rw [k0_part19_eq_skeleton]; unfold k0_part19_skel
  simp only [Prog.lift, Prog.bind_op, Prog.bind_ret, Prog.pure_eq_ret, Prog.bind_assoc]
  refine step_rwait m 3 0 (by decide) (by decide) rfl (by decide) rfl ?_
  refine step_send m 3 0 0 (by decide) rfl (Fin.ext k0_dev35_eq) rfl rfl ?_
  rw [k0_part20_eq_skeleton]; unfold k0_part20_skel
  simp only [Prog.lift, Prog.bind_op, Prog.bind_ret, Prog.pure_eq_ret, Prog.bind_assoc]
  refine step_rwait m 3 1 (by decide) (by decide) rfl (by decide) rfl ?_
  refine step_send m 3 1 0 (by decide) rfl (Fin.ext k0_dev36_eq) rfl rfl ?_
  refine step_rwait m 3 2 (by decide) (by decide) rfl (by decide) rfl ?_
  rw [k0_part21_eq_skeleton]; unfold k0_part21_skel
  simp only [Prog.lift, Prog.bind_op, Prog.bind_ret, Prog.pure_eq_ret, Prog.bind_assoc]
  refine step_send m 3 2 0 (by decide) rfl (Fin.ext k0_dev37_eq) rfl rfl ?_
  refine step_rwait m 3 3 (by decide) (by decide) rfl (by decide) rfl ?_
  rw [k0_part22_eq_skeleton]; unfold k0_part22_skel
  simp only [Prog.lift, Prog.bind_op, Prog.bind_ret, Prog.pure_eq_ret, Prog.bind_assoc]
  refine step_send m 3 3 0 (by decide) rfl (Fin.ext k0_dev38_eq) rfl rfl ?_
  refine step_load_wq m ?_
  refine step_load_x m ?_
  refine step_load_q m ?_
  refine step_store_q m ?_
  refine step_load_x m ?_
  refine step_load_q m ?_
  refine step_store_q m ?_
  refine step_q m (q_filled m 3 fq (congrFun (congrFun pay12_eq _) _) (congrFun (congrFun pay13_eq _) _)) ?_
  rw [k0_part23_eq_skeleton]; unfold k0_part23_skel
  simp only [Prog.lift, Prog.bind_op, Prog.bind_ret, Prog.pure_eq_ret, Prog.bind_assoc]
  refine step_swait m 3 0 0 (by decide) rfl (by decide) rfl ?_
  refine step_swait m 3 1 0 (by decide) rfl (by decide) rfl ?_
  refine step_swait m 3 2 0 (by decide) rfl (by decide) rfl ?_
  refine step_swait m 3 3 0 (by decide) rfl (by decide) rfl ?_
  refine step_tr m (T' := doneT 3) (A' := fun _ => 1) (by decide) (by decide) ?_
  exact H

theorem part30_4 {fq fw fo} {P : sProp 𝕄} {α : Type} {Q : α → sProp 𝕄} {kk : Ret30 → Prog (TpuEff nD τ sig (Elt F) Λ₀ .tc) α}
    (H : iprop(Rec m ∗ Tr m 4 (hsList 1 4) (doneT 4) (fun _ => 1) ∗ Bf m 4 (qC m 4) fw fo ∗ P) ⊢ WP 4 (kk ⟨k0_pay20, k0_pay21, k0_pay22, k0_pay23⟩) Q) :
    iprop(Rec m ∗ Tr m 4 (sendList 4 ++ hsList 1 4) (fun _ => 0) (fun _ => 0) ∗ Bf m 4 fq fw fo ∗ P)
      ⊢ WP 4 (onArgs (k0_part30 (F := F)) 4 (v2Of 4) (v9Of 4) (SemArray.scalar (sig.barrier 0 rfl)) >>= kk) Q := by
  rw [k0_part30_eq_skeleton]
  unfold k0_part30_skel onArgs
  simp (config := {zeta := false, zetaHave := false}) only [dif_neg (by decide : ¬ k0_cond8 (4 : Dev nD) = 1#1), dif_neg (by decide : ¬ k0_cond9 (4 : Dev nD) = 1#1), dif_neg (by decide : ¬ k0_cond11 (4 : Dev nD) = 1#1), dif_neg (by decide : ¬ k0_cond12 (4 : Dev nD) = 1#1), dif_pos (by decide : k0_cond13 (4 : Dev nD) = 1#1), dif_neg (by decide : ¬ Scalar.cmpi .ne (Scalar.extui (v9Of 4)) 0#32 = 1#1)]
  simp only [Prog.lift, Prog.bind_op, Prog.bind_ret, Prog.pure_eq_ret, Prog.bind_assoc]
  rw [k0_part24_eq_skeleton]; unfold k0_part24_skel
  simp only [Prog.lift, Prog.bind_op, Prog.bind_ret, Prog.pure_eq_ret, Prog.bind_assoc]
  refine step_rwait m 4 0 (by decide) (by decide) rfl (by decide) rfl ?_
  refine step_send m 4 0 0 (by decide) rfl (Fin.ext k0_dev39_eq) rfl rfl ?_
  rw [k0_part25_eq_skeleton]; unfold k0_part25_skel
  simp only [Prog.lift, Prog.bind_op, Prog.bind_ret, Prog.pure_eq_ret, Prog.bind_assoc]
  refine step_rwait m 4 1 (by decide) (by decide) rfl (by decide) rfl ?_
  refine step_send m 4 1 0 (by decide) rfl (Fin.ext k0_dev40_eq) rfl rfl ?_
  refine step_rwait m 4 2 (by decide) (by decide) rfl (by decide) rfl ?_
  rw [k0_part26_eq_skeleton]; unfold k0_part26_skel
  simp only [Prog.lift, Prog.bind_op, Prog.bind_ret, Prog.pure_eq_ret, Prog.bind_assoc]
  refine step_send m 4 2 0 (by decide) rfl (Fin.ext k0_dev41_eq) rfl rfl ?_
  refine step_rwait m 4 3 (by decide) (by decide) rfl (by decide) rfl ?_
  rw [k0_part27_eq_skeleton]; unfold k0_part27_skel
  simp only [Prog.lift, Prog.bind_op, Prog.bind_ret, Prog.pure_eq_ret, Prog.bind_assoc]
  refine step_send m 4 3 0 (by decide) rfl (Fin.ext k0_dev42_eq) rfl rfl ?_
  refine step_load_wq m ?_
  refine step_load_x m ?_
  refine step_load_q m ?_
  refine step_store_q m ?_
  refine step_load_x m ?_
  refine step_load_q m ?_
  refine step_store_q m ?_
  refine step_q m (q_filled m 4 fq (congrFun (congrFun pay15_eq _) _) (congrFun (congrFun pay16_eq _) _)) ?_
  rw [k0_part28_eq_skeleton]; unfold k0_part28_skel
  simp only [Prog.lift, Prog.bind_op, Prog.bind_ret, Prog.pure_eq_ret, Prog.bind_assoc]
  refine step_swait m 4 0 0 (by decide) rfl (by decide) rfl ?_
  refine step_swait m 4 1 0 (by decide) rfl (by decide) rfl ?_
  refine step_swait m 4 2 0 (by decide) rfl (by decide) rfl ?_
  refine step_swait m 4 3 0 (by decide) rfl (by decide) rfl ?_
  refine step_tr m (T' := doneT 4) (A' := fun _ => 1) (by decide) (by decide) ?_
  exact H

theorem part30_1 {fq fw fo} {P : sProp 𝕄} {α : Type} {Q : α → sProp 𝕄} {kk : Ret30 → Prog (TpuEff nD τ sig (Elt F) Λ₀ .tc) α}
    (H : iprop(Rec m ∗ Tr m 1 (hsList 1 1) (doneT 1) (fun _ => 1) ∗ Bf m 1 (qC m 1) fw fo ∗ P) ⊢ WP 1 (kk ⟨k0_pay20, k0_pay21, k0_pay22, k0_pay23⟩) Q) :
    iprop(Rec m ∗ Tr m 1 (sendList 1 ++ hsList 1 1) (fun _ => 0) (fun _ => 0) ∗ Bf m 1 fq fw fo ∗ P)
      ⊢ WP 1 (onArgs (k0_part30 (F := F)) 1 (v2Of 1) (v9Of 1) (SemArray.scalar (sig.barrier 0 rfl)) >>= kk) Q := by
  rw [k0_part30_eq_skeleton]
  unfold k0_part30_skel onArgs
  simp (config := {zeta := false, zetaHave := false}) only [dif_neg (by decide : ¬ k0_cond8 (1 : Dev nD) = 1#1), dif_neg (by decide : ¬ k0_cond9 (1 : Dev nD) = 1#1), dif_pos (by decide : k0_cond11 (1 : Dev nD) = 1#1), dif_neg (by decide : ¬ k0_cond12 (1 : Dev nD) = 1#1), dif_neg (by decide : ¬ k0_cond13 (1 : Dev nD) = 1#1), dif_neg (by decide : ¬ Scalar.cmpi .ne (Scalar.extui (v9Of 1)) 0#32 = 1#1)]
  simp only [Prog.lift, Prog.bind_op, Prog.bind_ret, Prog.pure_eq_ret, Prog.bind_assoc]
  rw [k0_part11_eq_skeleton]; unfold k0_part11_skel
  simp only [Prog.lift, Prog.bind_op, Prog.bind_ret, Prog.pure_eq_ret, Prog.bind_assoc]
  refine step_rwait m 1 0 (by decide) (by decide) rfl (by decide) rfl ?_
  refine step_send m 1 0 0 (by decide) rfl (Fin.ext k0_dev27_eq) rfl rfl ?_
  rw [k0_part12_eq_skeleton]; unfold k0_part12_skel
  simp only [Prog.lift, Prog.bind_op, Prog.bind_ret, Prog.pure_eq_ret, Prog.bind_assoc]
  refine step_send m 1 0 1 (by decide) rfl (Fin.ext k0_dev28_eq) rfl rfl ?_
  refine step_rwait m 1 1 (by decide) (by decide) rfl (by decide) rfl ?_
  rw [k0_part13_eq_skeleton]; unfold k0_part13_skel
  simp only [Prog.lift, Prog.bind_op, Prog.bind_ret, Prog.pure_eq_ret, Prog.bind_assoc]
  refine step_send m 1 1 0 (by decide) rfl (Fin.ext k0_dev29_eq) rfl rfl ?_
  refine step_send m 1 1 1 (by decide) rfl (Fin.ext k0_dev30_eq) rfl rfl ?_
  refine step_rwait m 1 2 (by decide) (by decide) rfl (by decide) rfl ?_
  rw [k0_part14_eq_skeleton]; unfold k0_part14_skel
  simp only [Prog.lift, Prog.bind_op, Prog.bind_ret, Prog.pure_eq_ret, Prog.bind_assoc]
  refine step_send m 1 2 0 (by decide) rfl (Fin.ext k0_dev31_eq) rfl rfl ?_
  refine step_send m 1 2 1 (by decide) rfl (Fin.ext k0_dev32_eq) rfl rfl ?_
  rw [k0_part15_eq_skeleton]; unfold k0_part15_skel
  simp only [Prog.lift, Prog.bind_op, Prog.bind_ret, Prog.pure_eq_ret, Prog.bind_assoc]
  refine step_rwait m 1 3 (by decide) (by decide) rfl (by decide) rfl ?_
  refine step_send m 1 3 0 (by decide) rfl (Fin.ext k0_dev33_eq) rfl rfl ?_
  refine step_send m 1 3 1 (by decide) rfl (Fin.ext k0_dev34_eq) rfl rfl ?_
  refine step_load_wq m ?_
  refine step_load_x m ?_
  rw [k0_part16_eq_skeleton]; unfold k0_part16_skel
  simp only [Prog.lift, Prog.bind_op, Prog.bind_ret, Prog.pure_eq_ret, Prog.bind_assoc]
  refine step_load_q m ?_
  refine step_store_q m ?_
  refine step_load_x m ?_
  refine step_load_q m ?_
  refine step_store_q m ?_
  refine step_q m (q_filled m 1 fq (congrFun (pay9_eq _) _) (congrFun (pay10_eq _) _)) ?_
  refine step_swait m 1 0 0 (by decide) rfl (by decide) rfl ?_
  rw [k0_part17_eq_skeleton]; unfold k0_part17_skel
  simp only [Prog.lift, Prog.bind_op, Prog.bind_ret, Prog.pure_eq_ret, Prog.bind_assoc]
  refine step_swait m 1 0 1 (by decide) rfl (by decide) rfl ?_
  refine step_swait m 1 1 0 (by decide) rfl (by decide) rfl ?_
  refine step_swait m 1 1 1 (by decide) rfl (by decide) rfl ?_
  rw [k0_part18_eq_skeleton]; unfold k0_part18_skel
  simp only [Prog.lift, Prog.bind_op, Prog.bind_ret, Prog.pure_eq_ret, Prog.bind_assoc]
  refine step_swait m 1 2 0 (by decide) rfl (by decide) rfl ?_
  refine step_swait m 1 2 1 (by decide) rfl (by decide) rfl ?_
  refine step_swait m 1 3 0 (by decide) rfl (by decide) rfl ?_
  refine step_swait m 1 3 1 (by decide) rfl (by decide) rfl ?_
  refine step_tr m (T' := doneT 1) (A' := fun _ => 1) (by decide) (by decide) ?_
  exact H

/-- The root's store of a chunk, the stored value named. -/
theorem step_fill' (k : Fin 4) {l : List (Dev nD × Fin 18)} {T : Fin 4 × Fin 3 → ℕ} {A : Fin 4 → ℕ} (hT : ∀ j, T (k, j) = 0) (hA : A k = 0)
    {hx : (kvM.access (rk k)).Stores Finset.univ} {hm : Finset.univ = Finset.univ ∨ ∀ a, (rk k).stride a = 1} {P : sProp 𝕄} {v : FVec F S1x256x4x64 .bf16}
    {α : Type} {Q : α → sProp 𝕄} {kk : PUnit → Prog (TpuEff nD τ sig (Elt F) Λ₀ .tc) α} (hv : v = kvPay m k)
    (H : iprop(Rec m ∗ Tr m 0 l (arrT T k) (arrA A k) ∗ P) ⊢ WP 0 (kk ⟨⟩) Q) :
    iprop(Rec m ∗ Tr m 0 l T A ∗ P) ⊢ WP 0 (.op (.store kvM (rk k) v Finset.univ hx hm) kk) Q := by
  subst hv; exact step_fill m k hT hA H

theorem part30_0 {fq fw fo} {P : sProp 𝕄} {α : Type} {Q : α → sProp 𝕄} {kk : Ret30 → Prog (TpuEff nD τ sig (Elt F) Λ₀ .tc) α}
    (H : iprop(Rec m ∗ Tr m 0 (hsList 1 0) (doneT 0) (fun _ => 1) ∗ Bf m 0 (qC m 0) fw fo ∗ P) ⊢ WP 0 (kk ⟨k0_pay20, k0_pay21, k0_pay22, k0_pay23⟩) Q) :
    iprop(Rec m ∗ Tr m 0 (sendList 0 ++ hsList 1 0) (fun _ => 0) (fun _ => 0) ∗ Bf m 0 fq fw fo ∗ P)
      ⊢ WP 0 (onArgs (k0_part30 (F := F)) 0 (v2Of 0) (v9Of 0) (SemArray.scalar (sig.barrier 0 rfl)) >>= kk) Q := by
  rw [k0_part30_eq_skeleton]
  unfold k0_part30_skel onArgs
  simp (config := {zeta := false, zetaHave := false}) only [dif_neg (by decide : ¬ k0_cond8 (0 : Dev nD) = 1#1), dif_pos (by decide : k0_cond9 (0 : Dev nD) = 1#1), dif_neg (by decide : ¬ k0_cond11 (0 : Dev nD) = 1#1), dif_neg (by decide : ¬ k0_cond12 (0 : Dev nD) = 1#1), dif_neg (by decide : ¬ k0_cond13 (0 : Dev nD) = 1#1), dif_neg (by decide : ¬ Scalar.cmpi .ne (Scalar.extui (v9Of 0)) 0#32 = 1#1)]
  simp only [Prog.lift, Prog.bind_op, Prog.bind_ret, Prog.pure_eq_ret, Prog.bind_assoc]
  rw [k0_part1_eq_skeleton]; unfold k0_part1_skel
  simp only [Prog.lift, Prog.bind_op, Prog.bind_ret, Prog.pure_eq_ret, Prog.bind_assoc]
  refine step_load_k m ?_
  refine step_loadraw m 0 (by decide) (fun _ => ?_)
  refine step_fill' m 0 (by decide) (by decide) rfl ?_
  refine step_send m 0 0 0 (by decide) rfl (Fin.ext k0_dev15_eq) rfl rfl ?_
  rw [k0_part2_eq_skeleton]; unfold k0_part2_skel
  simp only [Prog.lift, Prog.bind_op, Prog.bind_ret, Prog.pure_eq_ret, Prog.bind_assoc]
  refine step_send m 0 0 1 (by decide) rfl (Fin.ext k0_dev16_eq) rfl rfl ?_
  refine step_send m 0 0 2 (by decide) rfl (Fin.ext k0_dev17_eq) rfl rfl ?_
  refine step_load_k m ?_
  refine step_loadraw m 1 (by decide) (fun _ => ?_)
  refine step_fill' m 1 (by decide) (by decide) rfl ?_
  rw [k0_part3_eq_skeleton]; unfold k0_part3_skel
  simp only [Prog.lift, Prog.bind_op, Prog.bind_ret, Prog.pure_eq_ret, Prog.bind_assoc]
  refine step_send m 0 1 0 (by decide) rfl (Fin.ext k0_dev18_eq) rfl rfl ?_
  refine step_send m 0 1 1 (by decide) rfl (Fin.ext k0_dev19_eq) rfl rfl ?_
  refine step_send m 0 1 2 (by decide) rfl (Fin.ext k0_dev20_eq) rfl rfl ?_
  rw [k0_part4_eq_skeleton]; unfold k0_part4_skel
  simp only [Prog.lift, Prog.bind_op, Prog.bind_ret, Prog.pure_eq_ret, Prog.bind_assoc]
  refine step_load_v m ?_
  refine step_loadraw m 2 (by decide) (fun _ => ?_)
  refine step_fill' m 2 (by decide) (by decide) rfl ?_
  refine step_send m 0 2 0 (by decide) rfl (Fin.ext k0_dev21_eq) rfl rfl ?_
  rw [k0_part5_eq_skeleton]; unfold k0_part5_skel
  simp only [Prog.lift, Prog.bind_op, Prog.bind_ret, Prog.pure_eq_ret, Prog.bind_assoc]
  refine step_send m 0 2 1 (by decide) rfl (Fin.ext k0_dev22_eq) rfl rfl ?_
  refine step_send m 0 2 2 (by decide) rfl (Fin.ext k0_dev23_eq) rfl rfl ?_
  refine step_load_v m ?_
  refine step_loadraw m 3 (by decide) (fun _ => ?_)
  refine step_fill' m 3 (by decide) (by decide) rfl ?_
  rw [k0_part6_eq_skeleton]; unfold k0_part6_skel
  simp only [Prog.lift, Prog.bind_op, Prog.bind_ret, Prog.pure_eq_ret, Prog.bind_assoc]
  refine step_send m 0 3 0 (by decide) rfl (Fin.ext k0_dev24_eq) rfl rfl ?_
  refine step_send m 0 3 1 (by decide) rfl (Fin.ext k0_dev25_eq) rfl rfl ?_
  refine step_send m 0 3 2 (by decide) rfl (Fin.ext k0_dev26_eq) rfl rfl ?_
  refine step_load_wq m ?_
  rw [k0_part7_eq_skeleton]; unfold k0_part7_skel
  simp only [Prog.lift, Prog.bind_op, Prog.bind_ret, Prog.pure_eq_ret, Prog.bind_assoc]
  refine step_load_x m ?_
  refine step_load_q m ?_
  refine step_store_q m ?_
  refine step_load_x m ?_
  refine step_load_q m ?_
  refine step_store_q m ?_
  refine step_q m (q_filled m 0 fq (congrFun (pay6_eq _) _) (congrFun (pay7_eq _) _)) ?_
  refine step_swait m 0 0 0 (by decide) rfl (by decide) rfl ?_
  rw [k0_part8_eq_skeleton]; unfold k0_part8_skel
  simp only [Prog.lift, Prog.bind_op, Prog.bind_ret, Prog.pure_eq_ret, Prog.bind_assoc]
  refine step_swait m 0 0 1 (by decide) rfl (by decide) rfl ?_
  refine step_swait m 0 0 2 (by decide) rfl (by decide) rfl ?_
  refine step_swait m 0 1 0 (by decide) rfl (by decide) rfl ?_
  rw [k0_part9_eq_skeleton]; unfold k0_part9_skel
  simp only [Prog.lift, Prog.bind_op, Prog.bind_ret, Prog.pure_eq_ret, Prog.bind_assoc]
  refine step_swait m 0 1 1 (by decide) rfl (by decide) rfl ?_
  refine step_swait m 0 1 2 (by decide) rfl (by decide) rfl ?_
  refine step_swait m 0 2 0 (by decide) rfl (by decide) rfl ?_
  rw [k0_part10_eq_skeleton]; unfold k0_part10_skel
  simp only [Prog.lift, Prog.bind_op, Prog.bind_ret, Prog.pure_eq_ret, Prog.bind_assoc]
  refine step_swait m 0 2 1 (by decide) rfl (by decide) rfl ?_
  refine step_swait m 0 2 2 (by decide) rfl (by decide) rfl ?_
  refine step_swait m 0 3 0 (by decide) rfl (by decide) rfl ?_
  refine step_swait m 0 3 1 (by decide) rfl (by decide) rfl ?_
  refine step_swait m 0 3 2 (by decide) rfl (by decide) rfl ?_
  refine step_tr m (T' := doneT 0) (A' := fun _ => 1) (by decide) (by decide) ?_
  exact H

end Cert.Tree

end
-- ==== Proof.Compute.lean ====
/-
# Computing

What every device computes out of its queries and the chunks it holds, and the rules for the body's parts that do so.
-/
module

public import proofs.«01_k».proof.Proof.Move

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## What a device computes with -/

abbrev rqh (b : Fin 2) (h : Fin 4) : Rect S2x256x256 := Rect.unit (s := S2x256x256) ![b.val, 0, 64 * h.val] S1x256x64.size (by revert b h; decide)
abbrev rkvh (k : Fin 4) (h : Fin 4) : Rect S4x256x4x64 := Rect.unit (s := S4x256x4x64) ![k.val, 0, h.val, 0] S1x256x1x64.size (by revert k h; decide)
abbrev rwh (b : Fin 2) (h : Fin 4) : Rect S2x4x256x256 := Rect.unit (s := S2x4x256x256) ![b.val, h.val, 0, 0] S1x1x256x256.size (by revert b h; decide)
abbrev ro (b : Fin 2) : Rect S2x256x512 := Rect.unit (s := S2x256x512) ![b.val, 0, 0] S1x256x512.size (by revert b; decide)
abbrev rwo : Rect S256x512 := Rect.unit (s := S256x512) ![0, 0] S256x512.size inb_S256x512_S256x512_0_0

/-- The additive mask, a head's queries, a head of a chunk, and the output projection as loaded. -/
def maskV : FVec F S256x256 .f32 := k0_pay24 (F := F) k0_pay20 k0_pay21 k0_pay22 k0_pay23
def qh (c : Dev nD) (b : Fin 2) (h : Fin 4) : Vec F S1x256x64 .bf16 := qM.view.readAt (Elt F) (rqh b h).toLoadRect (qC m c)
def kvh (k h : Fin 4) : Vec F S1x256x1x64 .bf16 := kvM.view.readAt (Elt F) (rkvh k h).toLoadRect (KV m k)
def woV (c : Dev nD) : FVec F S256x512 .bf16 := k0_pay25 (woM.view.readAt (Elt F) rwo.toLoadRect (wostg m c))

/-- One head's softmax weights: of the mask, its queries and its keys. -/
def wPay (mk : FVec F S256x256 .f32) (q : Vec F S1x256x64 .bf16) (k : Vec F S1x256x1x64 .bf16) : FVec F S1x1x256x256 .bf16 := k0_pay28 mk q k

theorem pay27_eq (mk : FVec F S256x256 .f32) (q : Vec F S1x256x64 .bf16) (k : Vec F S1x256x1x64 .bf16) : k0_pay27 mk (k0_pay26 q) k = wPay mk q k := rfl
theorem pay28_eq (mk : FVec F S256x256 .f32) (q : Vec F S1x256x64 .bf16) (k : Vec F S1x256x1x64 .bf16) : k0_pay28 mk q k = wPay mk q k := rfl
theorem pay29_eq (mk : FVec F S256x256 .f32) (q : Vec F S1x256x64 .bf16) (k : Vec F S1x256x1x64 .bf16) : k0_pay29 mk q k = wPay mk q k := rfl
theorem pay30_eq (mk : FVec F S256x256 .f32) (q : Vec F S1x256x64 .bf16) (k : Vec F S1x256x1x64 .bf16) : k0_pay30 mk q k = wPay mk q k := rfl
theorem pay31_eq (mk : FVec F S256x256 .f32) (q : Vec F S1x256x64 .bf16) (k : Vec F S1x256x1x64 .bf16) : k0_pay31 mk q k = wPay mk q k := rfl
theorem pay33_eq (mk : FVec F S256x256 .f32) (q : Vec F S1x256x64 .bf16) (k : Vec F S1x256x1x64 .bf16) : k0_pay33 (k0_pay32 mk q k) = wPay mk q k := rfl
theorem pay34_eq (mk : FVec F S256x256 .f32) (q : Vec F S1x256x64 .bf16) (k : Vec F S1x256x1x64 .bf16) : k0_pay34 mk q k = wPay mk q k := rfl
theorem pay38_eq (mk : FVec F S256x256 .f32) (q : Vec F S1x256x64 .bf16) (k : Vec F S1x256x1x64 .bf16) :
    k0_pay38 (k0_pay35 mk q k) (k0_pay36 mk q k) k0_pay37 = wPay mk q k := rfl

/-- What device `c` stores for batch `b`, head `h`; the weights' buffer, filled. -/
def wt (c : Dev nD) (b : Fin 2) (h : Fin 4) : FVec F S1x1x256x256 .bf16 := wPay maskV (qh m c b h) (kvh m (b.castLE (by decide)) h)
abbrev wp (c : Dev nD) (b : Fin 2) (h : Fin 4) : View.Piece (Elt F) S2x4x256x256 .bf16 := ⟨rwh b h, wt m c b h⟩
def wL (c : Dev nD) : List (View.Piece (Elt F) S2x4x256x256 .bf16) :=
  [wp m c 1 3, wp m c 1 2, wp m c 1 1, wp m c 1 0, wp m c 0 3, wp m c 0 2, wp m c 0 1, wp m c 0 0]
def wC (c : Dev nD) : (cc0_scratch2 : Ref sig .tc).ty.Contents (Elt F) := wM.view.writes (Elt F) (m ((c : Thread nD τ).loc cc0_scratch2)) (wL m c)

theorem w_cover (W : Fin 2 → Fin 4 → FVec F S1x1x256x256 .bf16) : ∀ y : S2x4x256x256.Idx, ∃ p ∈ ([⟨rwh 1 3, W 1 3⟩, ⟨rwh 1 2, W 1 2⟩, ⟨rwh 1 1, W 1 1⟩, ⟨rwh 1 0, W 1 0⟩,
    ⟨rwh 0 3, W 0 3⟩, ⟨rwh 0 2, W 0 2⟩, ⟨rwh 0 1, W 0 1⟩, ⟨rwh 0 0, W 0 0⟩] : List (View.Piece (Elt F) S2x4x256x256 .bf16)), y ∈ p.1.set :=
  View.cover_of_tiled _ S1x1x256x256.size rfl

theorem w_full (c : Dev nD) (f : (cc0_scratch2 : Ref sig .tc).ty.Contents (Elt F)) : wM.view.writes (Elt F) f (wL m c) = wC m c :=
  writes_all cc0_scratch2 f _ (wL m c) (w_cover (wt m c))

/-- A head's weights as read back, its context, and one batch's output. -/
def wRd (c : Dev nD) (b : Fin 2) (h : Fin 4) : Vec F S1x1x256x256 .bf16 := wM.view.readAt (Elt F) (rwh b h).toLoadRect (wC m c)
def avPay (w : Vec F S1x1x256x256 .bf16) (v : Vec F S1x256x1x64 .bf16) : FVec F S256x64 .f32 := k0_pay39 w v
def vk (b : Fin 2) : Fin 4 := ⟨b.val + 2, by omega⟩
def av (c : Dev nD) (b : Fin 2) (h : Fin 4) : FVec F S256x64 .f32 := avPay (wRd m c b h) (kvh m (vk b) h)
def oPay (wo : FVec F S256x512 .bf16) (a0 a1 a2 : FVec F S256x64 .f32) (w : Vec F S1x1x256x256 .bf16) (v : Vec F S1x256x1x64 .bf16) : FVec F S1x256x512 .f32 := k0_pay42 wo a0 a1 a2 w v
def ov (c : Dev nD) (b : Fin 2) : FVec F S1x256x512 .f32 := oPay (woV m c) (av m c b 0) (av m c b 1) (av m c b 2) (wRd m c b 3) (kvh m (vk b) 3)

theorem pay40_eq (w : Vec F S1x1x256x256 .bf16) (v : Vec F S1x256x1x64 .bf16) : k0_pay40 w v = avPay w v := rfl
theorem pay41_eq (w : Vec F S1x1x256x256 .bf16) (v : Vec F S1x256x1x64 .bf16) : k0_pay41 w v = avPay w v := rfl
theorem pay43_eq (w : Vec F S1x1x256x256 .bf16) (v : Vec F S1x256x1x64 .bf16) : k0_pay43 w v = avPay w v := rfl
theorem pay44_eq (w : Vec F S1x1x256x256 .bf16) (v : Vec F S1x256x1x64 .bf16) : k0_pay44 w v = avPay w v := rfl
theorem pay45_eq (wo : FVec F S256x512 .bf16) (a0 a1 : FVec F S256x64 .f32) (w2 : Vec F S1x1x256x256 .bf16) (v2 : Vec F S1x256x1x64 .bf16) (w : Vec F S1x1x256x256 .bf16) (v : Vec F S1x256x1x64 .bf16) :
    k0_pay45 wo a0 a1 w2 v2 w v = oPay wo a0 a1 (avPay w2 v2) w v := rfl

def oC (c : Dev nD) : (cc0_stg5_0 : Ref sig .tc).ty.Contents (Elt F) := oM.view.writes (Elt F) (m ((c : Thread nD τ).loc cc0_stg5_0)) [⟨ro 1, ov m c 1⟩, ⟨ro 0, ov m c 0⟩]

theorem o_cover (w0 w1 : FVec F S1x256x512 .f32) : ∀ y : S2x256x512.Idx, ∃ p ∈ ([⟨ro 1, w1⟩, ⟨ro 0, w0⟩] : List (View.Piece (Elt F) S2x256x512 .f32)), y ∈ p.1.set :=
  View.cover_of_tiled _ S1x256x512.size rfl

theorem o_full (c : Dev nD) (f : (cc0_stg5_0 : Ref sig .tc).ty.Contents (Elt F)) :
    oM.view.writes (Elt F) f [⟨ro 1, ov m c 1⟩, ⟨ro 0, ov m c 0⟩] = oC m c :=
  writes_all cc0_stg5_0 f _ _ (o_cover (ov m c 0) (ov m c 1))

/-! ## The statuses while computing -/

/-- A device with children has all its chunks by now; a leaf has the first `n`. -/
def tAt (c : Dev nD) (n : ℕ) (kj : Fin 4 × Fin 3) : ℕ := if nch c = 0 then (if kj.1.val < n then 1 else 0) else doneT c kj
def aAt (c : Dev nD) (n : ℕ) (k : Fin 4) : ℕ := if nch c = 0 then (if k.val < n then 1 else 0) else 1

theorem aAt_one (c : Dev nD) {n : ℕ} {k : Fin 4} (h : k.val < n) : aAt c n k = 1 := by
  unfold aAt
  by_cases hc : nch c = 0
  · rw [if_pos hc, if_pos h]
  · rw [if_neg hc]

theorem leaf_iff : ∀ c : Dev nD, Scalar.cmpi .ne (Scalar.extui (v9Of c)) 0#32 = 1#1 ↔ nch c = 0 := by decide
theorem leaf_ne : ∀ c : Dev nD, nch c = 0 → c ≠ 0 := by decide
theorem recv_lvl : ∀ (c : Dev nD) (k : Fin 4), ∀ ci ∈ hsList 1 c, lvl (c, iRecv k) < lvl ci := by decide

/-- A leaf waits for chunk `k` where the others go on. -/
theorem step_leaf {c : Dev nD} (k : Fin 4) {P : sProp 𝕄} {α : Type} {Q : α → sProp 𝕄} {β : Type} {p : Prog (TpuEff nD τ sig (Elt F) Λ₀ .tc) β} {kk : β → Prog (TpuEff nD τ sig (Elt F) Λ₀ .tc) α}
    {sem : DmaSem sig} (hsem : csem (iRecv k) = .dma sem) {src : Memref sig .tc .vmem S256x4x64 .bf16} {hw1 hw2}
    (H : iprop(Rec m ∗ Tr m c (hsList 1 c) (tAt c (k.val + 1)) (aAt c (k.val + 1)) ∗ P) ⊢ WP c (p >>= kk) Q) :
    iprop(Rec m ∗ Tr m c (hsList 1 c) (tAt c k.val) (aAt c k.val) ∗ P)
      ⊢ WP c ((if hh : Scalar.cmpi .ne (Scalar.extui (v9Of c)) 0#32 = 1#1 then .op (.waitDma2 sem src (chM k) hw1 hw2) (fun _ => p) else p) >>= kk) Q := by
  by_cases hc : nch c = 0
  · rw [dif_pos ((leaf_iff c).2 hc), Prog.bind_op]
    refine step_rwait m c k (leaf_ne c hc) (fun j => by unfold tAt; simp [hc]) (by unfold aAt; simp [hc]) (recv_lvl c k) hsem ?_
    refine step_tr m (T' := tAt c (k.val + 1)) (A' := aAt c (k.val + 1)) (fun k' j => ?_) (fun k' => ?_) H
    · simp only [tAt, arrT, hc, if_true]
      by_cases h : k' = k
      · subst h; simp
      · have : k'.val ≠ k.val := fun e => h (Fin.ext e)
        simp only [if_neg h]; congr 1; exact propext (by omega)
    · simp only [aAt, arrA, hc, if_true]
      by_cases h : k' = k
      · subst h; simp
      · have : k'.val ≠ k.val := fun e => h (Fin.ext e)
        simp only [if_neg h]; congr 1; exact propext (by omega)
  · rw [dif_neg (fun h => hc ((leaf_iff c).1 h))]
    have e1 : tAt c k.val = tAt c (k.val + 1) := by funext kj; simp only [tAt, if_neg hc]
    have e2 : aAt c k.val = aAt c (k.val + 1) := by funext kj; simp only [aAt, if_neg hc]
    rw [e1, e2]; exact H

theorem kv_sub (k h : Fin 4) : kvM.view.setOn (rkvh k h).toLoadRect.set ⊆ (kvM.access (rk k)).set := by
  rw [← chunk_set]
  intro i hi
  rw [mem_chunk]
  obtain ⟨x, hx, rfl⟩ := Finset.mem_map.mp hi
  have h0 := (Rect.mem_set_unit.mp hx) 0
  have e1 : (![k.val, 0, h.val, 0] : Fin 4 → ℕ) 0 = k.val := rfl
  have e2 : S1x256x1x64.size 0 = 1 := rfl
  rw [e1, e2] at h0
  show (x 0).val = k.val
  omega

/-- Loading one head of a chunk that is there. -/
theorem step_kvh {c : Dev nD} (k h : Fin 4) {n : ℕ} (hk : k.val < n) {l : List (Dev nD × Fin 18)} {T : Fin 4 × Fin 3 → ℕ}
    {hl : kvM.view.LoadsAt (rkvh k h).toLoadRect} {P : sProp 𝕄}
    {α : Type} {Q : α → sProp 𝕄} {kk : ((rkvh k h).toLoadRect.shape.Idx → Elt F .bf16) → Prog (TpuEff nD τ sig (Elt F) Λ₀ .tc) α}
    (H : iprop(Rec m ∗ Tr m c l T (aAt c n) ∗ P) ⊢ WP c (kk (kvh m k h)) Q) :
    iprop(Rec m ∗ Tr m c l T (aAt c n) ∗ P) ⊢ WP c (.op (.load kvM (rkvh k h).toLoadRect hl) kk) Q :=
  step_loadkv m c k (aAt_one c hk) (kv_sub k h) H

/-- Loading one head's queries. -/
theorem step_qh {c : Dev nD} (b : Fin 2) (h : Fin 4) {R₀ R₁ P : sProp 𝕄} {fw fo} {hl : qM.view.LoadsAt (rqh b h).toLoadRect}
    {α : Type} {Q : α → sProp 𝕄} {kk : ((rqh b h).toLoadRect.shape.Idx → Elt F .bf16) → Prog (TpuEff nD τ sig (Elt F) Λ₀ .tc) α}
    (H : iprop(R₀ ∗ R₁ ∗ Bf m c (qC m c) fw fo ∗ P) ⊢ WP c (kk (qh m c b h)) Q) :
    iprop(R₀ ∗ R₁ ∗ Bf m c (qC m c) fw fo ∗ P) ⊢ WP c (.op (.load qM (rqh b h).toLoadRect hl) kk) Q :=
  step_load_q m H

/-- Storing one head's weights. -/
theorem step_wt {c : Dev nD} (b : Fin 2) (h : Fin 4) {R₀ R₁ P : sProp 𝕄} {fq fw fo} {L : List (View.Piece (Elt F) S2x4x256x256 .bf16)}
    {v : FVec F S1x1x256x256 .bf16} (hv : v = wt m c b h) {hx : (wM.access (rwh b h)).Stores Finset.univ} {hm : Finset.univ = Finset.univ ∨ ∀ a, (rwh b h).stride a = 1}
    {α : Type} {Q : α → sProp 𝕄} {kk : PUnit → Prog (TpuEff nD τ sig (Elt F) Λ₀ .tc) α}
    (H : iprop(R₀ ∗ R₁ ∗ Bf m c fq (wM.view.writes (Elt F) fw (wp m c b h :: L)) fo ∗ P) ⊢ WP c (kk ⟨⟩) Q) :
    iprop(R₀ ∗ R₁ ∗ Bf m c fq (wM.view.writes (Elt F) fw L) fo ∗ P) ⊢ WP c (.op (.store wM (rwh b h) v Finset.univ hx hm) kk) Q := by
  subst hv
  exact step_store_w m H

/-- Loading one head's weights back. -/
theorem step_wh {c : Dev nD} (b : Fin 2) (h : Fin 4) {R₀ R₁ P : sProp 𝕄} {fq fo} {hl : wM.view.LoadsAt (rwh b h).toLoadRect}
    {α : Type} {Q : α → sProp 𝕄} {kk : ((rwh b h).toLoadRect.shape.Idx → Elt F .bf16) → Prog (TpuEff nD τ sig (Elt F) Λ₀ .tc) α}
    (H : iprop(R₀ ∗ R₁ ∗ Bf m c fq (wC m c) fo ∗ P) ⊢ WP c (kk (wRd m c b h)) Q) :
    iprop(R₀ ∗ R₁ ∗ Bf m c fq (wC m c) fo ∗ P) ⊢ WP c (.op (.load wM (rwh b h).toLoadRect hl) kk) Q :=
  step_load_w m H

/-- Storing one batch's output. -/
theorem step_ov {c : Dev nD} (b : Fin 2) {R₀ R₁ P : sProp 𝕄} {fq fw fo} {L : List (View.Piece (Elt F) S2x256x512 .f32)}
    {v : FVec F S1x256x512 .f32} (hv : v = ov m c b) {hx : (oM.access (ro b)).Stores Finset.univ} {hm : Finset.univ = Finset.univ ∨ ∀ a, (ro b).stride a = 1}
    {α : Type} {Q : α → sProp 𝕄} {kk : PUnit → Prog (TpuEff nD τ sig (Elt F) Λ₀ .tc) α}
    (H : iprop(R₀ ∗ R₁ ∗ Bf m c fq fw (oM.view.writes (Elt F) fo (⟨ro b, ov m c b⟩ :: L)) ∗ P) ⊢ WP c (kk ⟨⟩) Q) :
    iprop(R₀ ∗ R₁ ∗ Bf m c fq fw (oM.view.writes (Elt F) fo L) ∗ P) ⊢ WP c (.op (.store oM (ro b) v Finset.univ hx hm) kk) Q := by
  subst hv
  exact step_store_o m H

theorem part31 (c : Dev nD) {fw : (cc0_scratch2 : Ref sig .tc).ty.Contents (Elt F)} {fo : (cc0_stg5_0 : Ref sig .tc).ty.Contents (Elt F)} {P : sProp 𝕄} {α : Type} {Q : α → sProp 𝕄} {kk : (Σ' (_ : FVec F S256x256 .f32) (_ : FVec F S256x512 .bf16), FVec F S256x64 .bf16) → Prog (TpuEff nD τ sig (Elt F) Λ₀ .tc) α}
    (H : iprop(Rec m ∗ Tr m c (hsList 1 c) (tAt c 1) (aAt c 1) ∗ Bf m c (qC m c) (fw) (fo) ∗ P) ⊢ WP c (kk ⟨maskV, woV m c, k0_pay26 (qh m c 0 0)⟩) Q) :
    iprop(Rec m ∗ Tr m c (hsList 1 c) (tAt c 0) (aAt c 0) ∗ Bf m c (qC m c) (fw) (fo) ∗ P) ⊢ WP c (onArgs (k0_part31 (F := F)) (v9Of c) k0_pay20 k0_pay21 k0_pay22 k0_pay23 >>= kk) Q := by
  rw [k0_part31_eq_skeleton]
  unfold k0_part31_skel onArgs
  simp only [Prog.lift, Prog.bind_op, Prog.bind_ret, Prog.pure_eq_ret, Prog.bind_assoc]
  refine step_load_wo m ?_
  refine step_leaf m 0 rfl ?_
  simp only [Prog.lift, Prog.bind_op, Prog.bind_ret, Prog.pure_eq_ret, Prog.bind_assoc]
  refine step_qh m 0 0 ?_
  exact H

theorem part32 (c : Dev nD) {fw : (cc0_scratch2 : Ref sig .tc).ty.Contents (Elt F)} {fo : (cc0_stg5_0 : Ref sig .tc).ty.Contents (Elt F)} {P : sProp 𝕄} {α : Type} {Q : α → sProp 𝕄} {kk : Vec F S1x256x64 .bf16 → Prog (TpuEff nD τ sig (Elt F) Λ₀ .tc) α}
    (H : iprop(Rec m ∗ Tr m c (hsList 1 c) (tAt c 1) (aAt c 1) ∗ Bf m c (qC m c) (wM.view.writes (Elt F) fw [wp m c 0 1, wp m c 0 0]) (fo) ∗ P) ⊢ WP c (kk (qh m c 0 2)) Q) :
    iprop(Rec m ∗ Tr m c (hsList 1 c) (tAt c 1) (aAt c 1) ∗ Bf m c (qC m c) (wM.view.writes (Elt F) fw []) (fo) ∗ P) ⊢ WP c (onArgs (k0_part32 (F := F)) maskV (k0_pay26 (qh m c 0 0)) >>= kk) Q := by
  rw [k0_part32_eq_skeleton]
  unfold k0_part32_skel onArgs
  simp only [Prog.lift, Prog.bind_op, Prog.bind_ret, Prog.pure_eq_ret, Prog.bind_assoc]
  refine step_kvh m 0 0 (by decide) ?_
  refine step_load_w m ?_
  refine step_wt m 0 0 (pay27_eq _ _ _) ?_
  refine step_qh m 0 1 ?_
  refine step_kvh m 0 1 (by decide) ?_
  refine step_load_w m ?_
  refine step_wt m 0 1 (pay28_eq _ _ _) ?_
  refine step_qh m 0 2 ?_
  exact H

theorem part33 (c : Dev nD) {fw : (cc0_scratch2 : Ref sig .tc).ty.Contents (Elt F)} {fo : (cc0_stg5_0 : Ref sig .tc).ty.Contents (Elt F)} {P : sProp 𝕄} {α : Type} {Q : α → sProp 𝕄} {kk : PUnit → Prog (TpuEff nD τ sig (Elt F) Λ₀ .tc) α}
    (H : iprop(Rec m ∗ Tr m c (hsList 1 c) (tAt c 1) (aAt c 1) ∗ Bf m c (qC m c) (wM.view.writes (Elt F) fw [wp m c 0 3, wp m c 0 2, wp m c 0 1, wp m c 0 0]) (fo) ∗ P) ⊢ WP c (kk ⟨⟩) Q) :
    iprop(Rec m ∗ Tr m c (hsList 1 c) (tAt c 1) (aAt c 1) ∗ Bf m c (qC m c) (wM.view.writes (Elt F) fw [wp m c 0 1, wp m c 0 0]) (fo) ∗ P) ⊢ WP c (onArgs (k0_part33 (F := F)) maskV (qh m c 0 2) >>= kk) Q := by
  rw [k0_part33_eq_skeleton]
  unfold k0_part33_skel onArgs
  simp only [Prog.lift, Prog.bind_op, Prog.bind_ret, Prog.pure_eq_ret, Prog.bind_assoc]
  refine step_kvh m 0 2 (by decide) ?_
  refine step_load_w m ?_
  refine step_wt m 0 2 (pay29_eq _ _ _) ?_
  refine step_qh m 0 3 ?_
  refine step_kvh m 0 3 (by decide) ?_
  refine step_load_w m ?_
  refine step_wt m 0 3 (pay30_eq _ _ _) ?_
  exact H

theorem part34 (c : Dev nD) {fw : (cc0_scratch2 : Ref sig .tc).ty.Contents (Elt F)} {fo : (cc0_stg5_0 : Ref sig .tc).ty.Contents (Elt F)} {P : sProp 𝕄} {α : Type} {Q : α → sProp 𝕄} {kk : FVec F S256x256 .bf16 → Prog (TpuEff nD τ sig (Elt F) Λ₀ .tc) α}
    (H : iprop(Rec m ∗ Tr m c (hsList 1 c) (tAt c 2) (aAt c 2) ∗ Bf m c (qC m c) (wM.view.writes (Elt F) fw [wp m c 1 0, wp m c 0 3, wp m c 0 2, wp m c 0 1, wp m c 0 0]) (fo) ∗ P) ⊢ WP c (kk (k0_pay32 maskV (qh m c 1 1) (kvh m 1 1))) Q) :
    iprop(Rec m ∗ Tr m c (hsList 1 c) (tAt c 1) (aAt c 1) ∗ Bf m c (qC m c) (wM.view.writes (Elt F) fw [wp m c 0 3, wp m c 0 2, wp m c 0 1, wp m c 0 0]) (fo) ∗ P) ⊢ WP c (onArgs (k0_part34 (F := F)) (v9Of c) maskV >>= kk) Q := by
  rw [k0_part34_eq_skeleton]
  unfold k0_part34_skel onArgs
  simp only [Prog.lift, Prog.bind_op, Prog.bind_ret, Prog.pure_eq_ret, Prog.bind_assoc]
  refine step_leaf m 1 rfl ?_
  simp only [Prog.lift, Prog.bind_op, Prog.bind_ret, Prog.pure_eq_ret, Prog.bind_assoc]
  refine step_qh m 1 0 ?_
  refine step_kvh m 1 0 (by decide) ?_
  refine step_load_w m ?_
  refine step_wt m 1 0 (pay31_eq _ _ _) ?_
  refine step_qh m 1 1 ?_
  refine step_kvh m 1 1 (by decide) ?_
  exact H

theorem part35 (c : Dev nD) {fw : (cc0_scratch2 : Ref sig .tc).ty.Contents (Elt F)} {fo : (cc0_stg5_0 : Ref sig .tc).ty.Contents (Elt F)} {P : sProp 𝕄} {α : Type} {Q : α → sProp 𝕄} {kk : (Σ' (_ : FVec F S256x256 .f32) (_ : FVec F S256x1 .f32), FVec F S256x1 .f32) → Prog (TpuEff nD τ sig (Elt F) Λ₀ .tc) α}
    (H : iprop(Rec m ∗ Tr m c (hsList 1 c) (tAt c 2) (aAt c 2) ∗ Bf m c (qC m c) (wM.view.writes (Elt F) fw [wp m c 1 2, wp m c 1 1, wp m c 1 0, wp m c 0 3, wp m c 0 2, wp m c 0 1, wp m c 0 0]) (fo) ∗ P) ⊢ WP c (kk ⟨k0_pay35 maskV (qh m c 1 3) (kvh m 1 3), k0_pay36 maskV (qh m c 1 3) (kvh m 1 3), k0_pay37⟩) Q) :
    iprop(Rec m ∗ Tr m c (hsList 1 c) (tAt c 2) (aAt c 2) ∗ Bf m c (qC m c) (wM.view.writes (Elt F) fw [wp m c 1 0, wp m c 0 3, wp m c 0 2, wp m c 0 1, wp m c 0 0]) (fo) ∗ P) ⊢ WP c (onArgs (k0_part35 (F := F)) maskV (k0_pay32 maskV (qh m c 1 1) (kvh m 1 1)) >>= kk) Q := by
  rw [k0_part35_eq_skeleton]
  unfold k0_part35_skel onArgs
  simp only [Prog.lift, Prog.bind_op, Prog.bind_ret, Prog.pure_eq_ret, Prog.bind_assoc]
  refine step_load_w m ?_
  refine step_wt m 1 1 (pay33_eq _ _ _) ?_
  refine step_qh m 1 2 ?_
  refine step_kvh m 1 2 (by decide) ?_
  refine step_load_w m ?_
  refine step_wt m 1 2 (pay34_eq _ _ _) ?_
  refine step_qh m 1 3 ?_
  refine step_kvh m 1 3 (by decide) ?_
  exact H

theorem part36 (c : Dev nD) {fw : (cc0_scratch2 : Ref sig .tc).ty.Contents (Elt F)} {fo : (cc0_stg5_0 : Ref sig .tc).ty.Contents (Elt F)} {P : sProp 𝕄} {α : Type} {Q : α → sProp 𝕄} {kk : (Σ' (_ : FVec F S256x64 .f32) (_ : FVec F S256x64 .f32), FVec F S256x64 .f32) → Prog (TpuEff nD τ sig (Elt F) Λ₀ .tc) α}
    (H : iprop(Rec m ∗ Tr m c (hsList 1 c) (tAt c 3) (aAt c 3) ∗ Bf m c (qC m c) (wC m c) (fo) ∗ P) ⊢ WP c (kk ⟨av m c 0 0, av m c 0 1, av m c 0 2⟩) Q) :
    iprop(Rec m ∗ Tr m c (hsList 1 c) (tAt c 2) (aAt c 2) ∗ Bf m c (qC m c) (wM.view.writes (Elt F) fw [wp m c 1 2, wp m c 1 1, wp m c 1 0, wp m c 0 3, wp m c 0 2, wp m c 0 1, wp m c 0 0]) (fo) ∗ P) ⊢ WP c (onArgs (k0_part36 (F := F)) (v9Of c) (k0_pay35 maskV (qh m c 1 3) (kvh m 1 3)) (k0_pay36 maskV (qh m c 1 3) (kvh m 1 3)) k0_pay37 >>= kk) Q := by
  rw [k0_part36_eq_skeleton]
  unfold k0_part36_skel onArgs
  simp only [Prog.lift, Prog.bind_op, Prog.bind_ret, Prog.pure_eq_ret, Prog.bind_assoc]
  refine step_load_w m ?_
  refine step_wt m 1 3 (pay38_eq _ _ _) ?_
  rw [show wM.view.writes (Elt F) fw (wp m c 1 3 :: _) = wC m c from w_full m c fw]
  refine step_leaf m 2 rfl ?_
  simp only [Prog.lift, Prog.bind_op, Prog.bind_ret, Prog.pure_eq_ret, Prog.bind_assoc]
  refine step_wh m 0 0 ?_
  refine step_kvh m 2 0 (by decide) ?_
  refine step_wh m 0 1 ?_
  refine step_kvh m 2 1 (by decide) ?_
  refine step_wh m 0 2 ?_
  refine step_kvh m 2 2 (by decide) ?_
  exact H

theorem part37 (c : Dev nD) {fw : (cc0_scratch2 : Ref sig .tc).ty.Contents (Elt F)} {fo : (cc0_stg5_0 : Ref sig .tc).ty.Contents (Elt F)} {P : sProp 𝕄} {α : Type} {Q : α → sProp 𝕄} {kk : (Σ' (_ : FVec F S256x64 .f32) (_ : FVec F S256x64 .f32), Vec F S1x1x256x256 .bf16) → Prog (TpuEff nD τ sig (Elt F) Λ₀ .tc) α}
    (H : iprop(Rec m ∗ Tr m c (hsList 1 c) (tAt c 4) (aAt c 4) ∗ Bf m c (qC m c) (wC m c) (oM.view.writes (Elt F) fo [⟨ro 0, ov m c 0⟩]) ∗ P) ⊢ WP c (kk ⟨av m c 1 0, av m c 1 1, wRd m c 1 2⟩) Q) :
    iprop(Rec m ∗ Tr m c (hsList 1 c) (tAt c 3) (aAt c 3) ∗ Bf m c (qC m c) (wC m c) (oM.view.writes (Elt F) fo []) ∗ P) ⊢ WP c (onArgs (k0_part37 (F := F)) (v9Of c) (woV m c) (av m c 0 0) (av m c 0 1) (av m c 0 2) >>= kk) Q := by
  rw [k0_part37_eq_skeleton]
  unfold k0_part37_skel onArgs
  simp only [Prog.lift, Prog.bind_op, Prog.bind_ret, Prog.pure_eq_ret, Prog.bind_assoc]
  refine step_wh m 0 3 ?_
  refine step_kvh m 2 3 (by decide) ?_
  refine step_load_o m ?_
  refine step_ov m 0 (rfl) ?_
  refine step_leaf m 3 rfl ?_
  simp only [Prog.lift, Prog.bind_op, Prog.bind_ret, Prog.pure_eq_ret, Prog.bind_assoc]
  refine step_wh m 1 0 ?_
  refine step_kvh m 3 0 (by decide) ?_
  refine step_wh m 1 1 ?_
  refine step_kvh m 3 1 (by decide) ?_
  refine step_wh m 1 2 ?_
  exact H

end Cert.Tree

end
-- ==== Proof.Body.lean ====
/-
# The body

The kernel body on each device, from its handshake tokens to its result.
-/
module

public import proofs.«01_k».proof.Proof.Compute

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem dev_cases : ∀ c : Dev nD, c = 0 ∨ c = 1 ∨ c = 2 ∨ c = 3 ∨ c = 4 ∨ c = 5 ∨ c = 6 ∨ c = 7 := by decide

/-! ## The body's first two parts, on any device -/

/-- Where a device is after the body's first part: device 7 has its entry handshake still before it. -/
def St (c : Dev nD) : sProp 𝕄 :=
  if c = 7 then iprop(Hs m c 0 (nbL c) (sendList c ++ hsList 1 c) ∗ Pre m c)
  else iprop(Tr m c (sendList c ++ hsList 1 c) (fun _ => 0) (fun _ => 0) ∗ semVal (kcell (c, 0)) 0)

/-- A device past its entry handshake is at the second part's start. -/
theorem to_St {c : Dev nD} (hc : c ≠ 7) {fq fw fo} {P : sProp 𝕄} {α : Type} {Q : α → sProp 𝕄} {p : Prog (TpuEff nD τ sig (Elt F) Λ₀ .tc) α}
    (H : iprop(Rec m ∗ St m c ∗ Bf m c fq fw fo ∗ P) ⊢ WP c p Q) :
    iprop(Rec m ∗ HsDone m c 0 (sendList c ++ hsList 1 c) ∗ Pre m c ∗ Bf m c fq fw fo ∗ P) ⊢ WP c p Q := by
  unfold St at H
  rw [if_neg hc] at H
  iintro ⟨HR, Hd, Hp, HB, HP⟩
  ihave Ht := (toTr m c (sendList c ++ hsList 1 c)) $$ [Hd Hp]
  · isplitl [Hd] <;> iassumption
  iapply H
  isplitl [HR]; · iexact HR
  isplitl [Ht]; · iexact Ht
  isplitl [HB] <;> iassumption

theorem part29 (c : Dev nD) {fq fw fo} {P : sProp 𝕄} {α : Type} {Q : α → sProp 𝕄} {kk : (Σ' (_ : Dev nD) (_ : BitVec 32) (_ : BitVec 1), Sems sig S_) → Prog (TpuEff nD τ sig (Elt F) Λ₀ .tc) α}
    (H : iprop(Rec m ∗ St m c ∗ Bf m c fq fw fo ∗ P) ⊢ WP c (kk ⟨c, v2Of c, v9Of c, SemArray.scalar (sig.barrier 0 rfl)⟩) Q) :
    iprop(Rec m ∗ Hs m c 0 (nbL c) (sendList c ++ hsList 1 c) ∗ Pre m c ∗ Bf m c fq fw fo ∗ P) ⊢ WP c (onArgs (k0_part29 (F := F)) >>= kk) Q := by
  rcases dev_cases c with rfl | rfl | rfl | rfl | rfl | rfl | rfl | rfl
  · exact part29_0 m (to_St m (by decide) H)
  · exact part29_1 m (to_St m (by decide) H)
  · exact part29_2 m (to_St m (by decide) H)
  · exact part29_3 m (to_St m (by decide) H)
  · exact part29_4 m (to_St m (by decide) H)
  · exact part29_5 m (to_St m (by decide) H)
  · exact part29_6 m (to_St m (by decide) H)
  · have h : iprop(Rec m ∗ Hs m 7 0 [3] (sendList 7 ++ hsList 1 7) ∗ Pre m 7 ∗ Bf m 7 fq fw fo ∗ P) ⊢ iprop(Rec m ∗ St m 7 ∗ Bf m 7 fq fw fo ∗ P) := by
      rw [show St m 7 = iprop(Hs m 7 0 [3] (sendList 7 ++ hsList 1 7) ∗ Pre m 7) from if_pos rfl]
      iintro ⟨HR, Hs, Hp, HB, HP⟩
      isplitl [HR]; · iexact HR
      isplitl [Hs Hp]
      · isplitl [Hs] <;> iassumption
      isplitl [HB] <;> iassumption
    exact part29_7 m (h.trans H)

/-- Reordering what a device has, for its closed barrier cell. -/
theorem st_open {c : Dev nD} (hc : c ≠ 7) {fq fw fo} {P : sProp 𝕄} {α : Type} {Q : α → sProp 𝕄} {p : Prog (TpuEff nD τ sig (Elt F) Λ₀ .tc) α}
    (H : iprop(Rec m ∗ Tr m c (sendList c ++ hsList 1 c) (fun _ => 0) (fun _ => 0) ∗ Bf m c fq fw fo ∗ (semVal (kcell (c, 0)) 0 ∗ P)) ⊢ WP c p Q) :
    iprop(Rec m ∗ St m c ∗ Bf m c fq fw fo ∗ P) ⊢ WP c p Q := by
  unfold St
  rw [if_neg hc]
  iintro ⟨HR, ⟨Ht, Hz⟩, HB, HP⟩
  iapply H
  isplitl [HR]; · iexact HR
  isplitl [Ht]; · iexact Ht
  isplitl [HB]; · iexact HB
  isplitl [Hz] <;> iassumption

theorem part30 (c : Dev nD) {fq fw fo} {P : sProp 𝕄} {α : Type} {Q : α → sProp 𝕄} {kk : Ret30 → Prog (TpuEff nD τ sig (Elt F) Λ₀ .tc) α}
    (H : iprop(Rec m ∗ Tr m c (hsList 1 c) (tAt c 0) (aAt c 0) ∗ Bf m c (qC m c) fw fo ∗ (semVal (kcell (c, 0)) 0 ∗ P)) ⊢ WP c (kk ⟨k0_pay20, k0_pay21, k0_pay22, k0_pay23⟩) Q) :
    iprop(Rec m ∗ St m c ∗ Bf m c fq fw fo ∗ P)
      ⊢ WP c (onArgs (k0_part30 (F := F)) c (v2Of c) (v9Of c) (SemArray.scalar (sig.barrier 0 rfl)) >>= kk) Q := by
  rcases dev_cases c with rfl | rfl | rfl | rfl | rfl | rfl | rfl | rfl
  · exact st_open m (by decide) (part30_0 m (step_tr m (by decide) (by decide) H))
  · exact st_open m (by decide) (part30_1 m (step_tr m (by decide) (by decide) H))
  · exact st_open m (by decide) (part30_2 m (step_tr m (by decide) (by decide) H))
  · exact st_open m (by decide) (part30_3 m (step_tr m (by decide) (by decide) H))
  · exact st_open m (by decide) (part30_4 m (step_tr m (by decide) (by decide) H))
  · exact st_open m (by decide) (part30_5 m (step_tr m (by decide) (by decide) H))
  · exact st_open m (by decide) (part30_6 m (step_tr m (by decide) (by decide) H))
  · have h : iprop(Rec m ∗ St m 7 ∗ Bf m 7 fq fw fo ∗ P) ⊢ iprop(Rec m ∗ Hs m 7 0 [3] (sendList 7 ++ hsList 1 7) ∗ Bf m 7 fq fw fo ∗ Pre m 7 ∗ P) := by
      rw [show St m 7 = iprop(Hs m 7 0 [3] (sendList 7 ++ hsList 1 7) ∗ Pre m 7) from if_pos rfl]
      iintro ⟨HR, ⟨Hs, Hp⟩, HB, HP⟩
      isplitl [HR]; · iexact HR
      isplitl [Hs]; · iexact Hs
      isplitl [HB]; · iexact HB
      isplitl [Hp] <;> iassumption
    exact h.trans (part30_7 m (step_tr m (by decide) (by decide) H))

/-! ## Leaving -/

/-- What a device needs for its exit handshake besides owing it. -/
def HsX (c : Dev nD) : sProp 𝕄 :=
  iprop(hsToks m c 1 (nbL c) ∗ cred (tallyAt (kcell (c, 1)) () (dut c 1).card) ∗ atPos ER (kcell (c, 1)) 0 ∅ 0)

/-- What a device has done by the time it leaves. -/
def Done (c : Dev nD) : sProp 𝕄 :=
  iprop(chSems (F := F) c ∗ (∃ f, pts (F := F) c cc0_scratch0 f) ∗ semVal (kcell (c, 0)) 0)

theorem tAt_four : ∀ c : Dev nD, tAt c 4 = doneT c := by decide

theorem aAt_four : ∀ c : Dev nD, aAt c 4 = fun _ => 1 := by decide

theorem leave {c : Dev nD} {fw fo} {P : sProp 𝕄} {α : Type} {Q : α → sProp 𝕄} {p : Prog (TpuEff nD τ sig (Elt F) Λ₀ .tc) α}
    (H : iprop(Rec m ∗ Hs m c 1 (nbL c) [] ∗ (Done c ∗ Bf m c (qC m c) fw fo ∗ P)) ⊢ WP c p Q) :
    iprop(Rec m ∗ Tr m c (hsList 1 c) (tAt c 4) (aAt c 4) ∗ Bf m c (qC m c) fw fo ∗ (semVal (kcell (c, 0)) 0 ∗ HsX m c ∗ P)) ⊢ WP c p Q := by
  rw [tAt_four, aAt_four]
  unfold Hs Done at H
  rw [List.append_nil] at H
  unfold HsX
  iintro ⟨HR, Ht, HB, Hz, ⟨Htk, Hcr, Hat⟩, HP⟩
  ihave Hd := (fromTr m c (hsList 1 c)) $$ Ht
  icases Hd with ⟨HO, Hs, Hkv⟩
  iapply H
  isplitl [HR]; · iexact HR
  isplitl [HO Htk Hcr Hat]
  · isplitl [HO]; · iexact HO
    isplitl [Htk]; · iexact Htk
    isplitl [Hcr] <;> iassumption
  isplitl [Hs Hkv Hz]
  · isplitl [Hs]; · iexact Hs
    isplitl [Hkv] <;> iassumption
  isplitl [HB] <;> iassumption

/-- The body on device `c`, from the neighbours' tokens to the computed result. -/
theorem body_run (c : Dev nD) {fq fw fo} {P : sProp 𝕄} {Q : PUnit → sProp 𝕄}
    (H : iprop(Rec m ∗ HsDone m c 1 [] ∗ (Done c ∗ Bf m c (qC m c) (wC m c) (oC m c) ∗ P)) ⊢ Q ⟨⟩) :
    iprop(Rec m ∗ Hs m c 0 (nbL c) (sendList c ++ hsList 1 c) ∗ Pre m c ∗ Bf m c fq fw fo ∗ (HsX m c ∗ P)) ⊢ WP c (onArgs (cc0_body (F := F))) Q := by
  have H' : iprop(Rec m ∗ HsDone m c 1 [] ∗ (Done c ∗ Bf m c (qC m c) (wC m c) (oC m c) ∗ P)) ⊢ WP c (.ret ⟨⟩) Q := by
    rw [WP, wp_ret]; exact H.trans fupd_intro
  rw [cc0_body_eq_skeleton]
  unfold cc0_body_skel onArgs
  refine part29 m c ?_
  refine part30 m c ?_
  refine part31 m c ?_
  refine part32 m c (fw := fw) ?_
  refine part33 m c ?_
  refine part34 m c ?_
  refine part35 m c ?_
  refine part36 m c ?_
  refine part37 m c (fw := fw) (fo := fo) ?_
  dsimp only
  rw [k0_part38_eq_skeleton]
  unfold k0_part38_skel
  simp only [Prog.lift, Prog.bind_op, Prog.bind_ret, Prog.pure_eq_ret, Prog.bind_assoc]
  refine step_kvh m 3 2 (by decide) ?_
  refine step_wh m 1 3 ?_
  refine step_kvh m 3 3 (by decide) ?_
  refine step_load_o m ?_
  refine step_ov m 1 (pay45_eq _ _ _ _ _ _ _) ?_
  rw [o_full]
  refine leave m ?_
  rcases dev_cases c with rfl | rfl | rfl | rfl | rfl | rfl | rfl | rfl
  · simp only [dif_pos (by decide : k0_cond18 (0 : Dev nD) = 1#1), dif_neg (by decide : ¬ k0_cond19 (0 : Dev nD) = 1#1), dif_neg (by decide : ¬ k0_cond20 (0 : Dev nD) = 1#1), dif_neg (by decide : ¬ k0_cond21 (0 : Dev nD) = 1#1), dif_neg (by decide : ¬ k0_cond22 (0 : Dev nD) = 1#1), dif_neg (by decide : ¬ k0_cond23 (0 : Dev nD) = 1#1), dif_neg (by decide : ¬ k0_cond24 (0 : Dev nD) = 1#1), dif_neg (by decide : ¬ k0_cond25 (0 : Dev nD) = 1#1), semSignalWord, semWaitWord, Prog.lift, Prog.bind_op, Prog.bind_ret, Prog.pure_eq_ret]
    refine step_sig m 0 1 1 rfl (by decide) rfl (congrArg Dev.tc (Fin.ext k0_dev43_eq)) (by decide) ?_
    refine step_sig m 0 3 1 rfl (by decide) rfl (congrArg Dev.tc (Fin.ext k0_dev44_eq)) (by decide) ?_
    refine step_sig m 0 4 1 rfl (by decide) rfl (congrArg Dev.tc (Fin.ext k0_dev45_eq)) (by decide) ?_
    exact step_hs m 0 1 rfl rfl (by decide) (by decide) H'
  · simp only [dif_neg (by decide : ¬ k0_cond18 (1 : Dev nD) = 1#1), dif_pos (by decide : k0_cond19 (1 : Dev nD) = 1#1), dif_neg (by decide : ¬ k0_cond20 (1 : Dev nD) = 1#1), dif_neg (by decide : ¬ k0_cond21 (1 : Dev nD) = 1#1), dif_neg (by decide : ¬ k0_cond22 (1 : Dev nD) = 1#1), dif_neg (by decide : ¬ k0_cond23 (1 : Dev nD) = 1#1), dif_neg (by decide : ¬ k0_cond24 (1 : Dev nD) = 1#1), dif_neg (by decide : ¬ k0_cond25 (1 : Dev nD) = 1#1), semSignalWord, semWaitWord, Prog.lift, Prog.bind_op, Prog.bind_ret, Prog.pure_eq_ret]
    refine step_sig m 1 0 1 rfl (by decide) rfl (congrArg Dev.tc (Fin.ext k0_dev46_eq)) (by decide) ?_
    refine step_sig m 1 2 1 rfl (by decide) rfl (congrArg Dev.tc (Fin.ext k0_dev47_eq)) (by decide) ?_
    refine step_sig m 1 5 1 rfl (by decide) rfl (congrArg Dev.tc (Fin.ext k0_dev48_eq)) (by decide) ?_
    exact step_hs m 1 1 rfl rfl (by decide) (by decide) H'
  · simp only [dif_neg (by decide : ¬ k0_cond18 (2 : Dev nD) = 1#1), dif_neg (by decide : ¬ k0_cond19 (2 : Dev nD) = 1#1), dif_pos (by decide : k0_cond20 (2 : Dev nD) = 1#1), dif_neg (by decide : ¬ k0_cond21 (2 : Dev nD) = 1#1), dif_neg (by decide : ¬ k0_cond22 (2 : Dev nD) = 1#1), dif_neg (by decide : ¬ k0_cond23 (2 : Dev nD) = 1#1), dif_neg (by decide : ¬ k0_cond24 (2 : Dev nD) = 1#1), dif_neg (by decide : ¬ k0_cond25 (2 : Dev nD) = 1#1), semSignalWord, semWaitWord, Prog.lift, Prog.bind_op, Prog.bind_ret, Prog.pure_eq_ret]
    refine step_sig m 2 1 1 rfl (by decide) rfl (congrArg Dev.tc (Fin.ext k0_dev49_eq)) (by decide) ?_
    exact step_hs m 2 1 rfl rfl (by decide) (by decide) H'
  · simp only [dif_neg (by decide : ¬ k0_cond18 (3 : Dev nD) = 1#1), dif_neg (by decide : ¬ k0_cond19 (3 : Dev nD) = 1#1), dif_neg (by decide : ¬ k0_cond20 (3 : Dev nD) = 1#1), dif_pos (by decide : k0_cond21 (3 : Dev nD) = 1#1), dif_neg (by decide : ¬ k0_cond22 (3 : Dev nD) = 1#1), dif_neg (by decide : ¬ k0_cond23 (3 : Dev nD) = 1#1), dif_neg (by decide : ¬ k0_cond24 (3 : Dev nD) = 1#1), dif_neg (by decide : ¬ k0_cond25 (3 : Dev nD) = 1#1), semSignalWord, semWaitWord, Prog.lift, Prog.bind_op, Prog.bind_ret, Prog.pure_eq_ret]
    refine step_sig m 3 0 1 rfl (by decide) rfl (congrArg Dev.tc (Fin.ext k0_dev50_eq)) (by decide) ?_
    refine step_sig m 3 7 1 rfl (by decide) rfl (congrArg Dev.tc (Fin.ext k0_dev51_eq)) (by decide) ?_
    exact step_hs m 3 1 rfl rfl (by decide) (by decide) H'
  · simp only [dif_neg (by decide : ¬ k0_cond18 (4 : Dev nD) = 1#1), dif_neg (by decide : ¬ k0_cond19 (4 : Dev nD) = 1#1), dif_neg (by decide : ¬ k0_cond20 (4 : Dev nD) = 1#1), dif_neg (by decide : ¬ k0_cond21 (4 : Dev nD) = 1#1), dif_pos (by decide : k0_cond22 (4 : Dev nD) = 1#1), dif_neg (by decide : ¬ k0_cond23 (4 : Dev nD) = 1#1), dif_neg (by decide : ¬ k0_cond24 (4 : Dev nD) = 1#1), dif_neg (by decide : ¬ k0_cond25 (4 : Dev nD) = 1#1), semSignalWord, semWaitWord, Prog.lift, Prog.bind_op, Prog.bind_ret, Prog.pure_eq_ret]
    refine step_sig m 4 0 1 rfl (by decide) rfl (congrArg Dev.tc (Fin.ext k0_dev52_eq)) (by decide) ?_
    refine step_sig m 4 6 1 rfl (by decide) rfl (congrArg Dev.tc (Fin.ext k0_dev53_eq)) (by decide) ?_
    exact step_hs m 4 1 rfl rfl (by decide) (by decide) H'
  · simp only [dif_neg (by decide : ¬ k0_cond18 (5 : Dev nD) = 1#1), dif_neg (by decide : ¬ k0_cond19 (5 : Dev nD) = 1#1), dif_neg (by decide : ¬ k0_cond20 (5 : Dev nD) = 1#1), dif_neg (by decide : ¬ k0_cond21 (5 : Dev nD) = 1#1), dif_neg (by decide : ¬ k0_cond22 (5 : Dev nD) = 1#1), dif_pos (by decide : k0_cond23 (5 : Dev nD) = 1#1), dif_neg (by decide : ¬ k0_cond24 (5 : Dev nD) = 1#1), dif_neg (by decide : ¬ k0_cond25 (5 : Dev nD) = 1#1), semSignalWord, semWaitWord, Prog.lift, Prog.bind_op, Prog.bind_ret, Prog.pure_eq_ret]
    refine step_sig m 5 1 1 rfl (by decide) rfl (congrArg Dev.tc (Fin.ext k0_dev54_eq)) (by decide) ?_
    exact step_hs m 5 1 rfl rfl (by decide) (by decide) H'
  · simp only [dif_neg (by decide : ¬ k0_cond18 (6 : Dev nD) = 1#1), dif_neg (by decide : ¬ k0_cond19 (6 : Dev nD) = 1#1), dif_neg (by decide : ¬ k0_cond20 (6 : Dev nD) = 1#1), dif_neg (by decide : ¬ k0_cond21 (6 : Dev nD) = 1#1), dif_neg (by decide : ¬ k0_cond22 (6 : Dev nD) = 1#1), dif_neg (by decide : ¬ k0_cond23 (6 : Dev nD) = 1#1), dif_pos (by decide : k0_cond24 (6 : Dev nD) = 1#1), dif_neg (by decide : ¬ k0_cond25 (6 : Dev nD) = 1#1), semSignalWord, semWaitWord, Prog.lift, Prog.bind_op, Prog.bind_ret, Prog.pure_eq_ret]
    refine step_sig m 6 4 1 rfl (by decide) rfl (congrArg Dev.tc (Fin.ext k0_dev55_eq)) (by decide) ?_
    exact step_hs m 6 1 rfl rfl (by decide) (by decide) H'
  · simp only [dif_neg (by decide : ¬ k0_cond18 (7 : Dev nD) = 1#1), dif_neg (by decide : ¬ k0_cond19 (7 : Dev nD) = 1#1), dif_neg (by decide : ¬ k0_cond20 (7 : Dev nD) = 1#1), dif_neg (by decide : ¬ k0_cond21 (7 : Dev nD) = 1#1), dif_neg (by decide : ¬ k0_cond22 (7 : Dev nD) = 1#1), dif_neg (by decide : ¬ k0_cond23 (7 : Dev nD) = 1#1), dif_neg (by decide : ¬ k0_cond24 (7 : Dev nD) = 1#1), dif_pos (by decide : k0_cond25 (7 : Dev nD) = 1#1), semSignalWord, semWaitWord, Prog.lift, Prog.bind_op, Prog.bind_ret, Prog.pure_eq_ret]
    refine step_sig m 7 3 1 rfl (by decide) rfl (congrArg Dev.tc (Fin.ext k0_dev56_eq)) (by decide) ?_
    exact step_hs m 7 1 rfl rfl (by decide) (by decide) H'

end Cert.Tree

end
-- ==== Proof.Deal.lean ====
/-
# What a device starts from

The launch gives each device its positions, its tokens and its credit cell by cell; here they are put together as the body
takes them.
-/
module

public import proofs.«01_k».proof.Proof.Body

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Cells by kind -/

theorem cells_split (Φ : Fin 18 → sProp 𝕄) :
    bigSep Finset.univ Φ = iprop(Φ 0 ∗ Φ 1 ∗ (bigSep Finset.univ fun k : Fin 4 => Φ (iRecv k)) ∗ bigSep Finset.univ fun kj : Fin 4 × Fin 3 => Φ (iSend kj.2 kj.1)) := by
  have hu : (Finset.univ : Finset (Fin 18)) = insert 0 (insert 1 ((Finset.univ.image iRecv) ∪ (Finset.univ.image fun kj : Fin 4 × Fin 3 => iSend kj.2 kj.1))) := by decide
  have h1 : Set.InjOn iRecv (Finset.univ : Finset (Fin 4)) := by
    have h : Function.Injective iRecv := by decide
    exact h.injOn
  have h2 : Set.InjOn (fun kj : Fin 4 × Fin 3 => iSend kj.2 kj.1) (Finset.univ : Finset (Fin 4 × Fin 3)) := by
    have h : Function.Injective (fun kj : Fin 4 × Fin 3 => iSend kj.2 kj.1) := by decide
    exact h.injOn
  rw [hu, bigSep_insert (by decide), bigSep_insert (by decide), bigSep_union (by decide), bigSep_image_of_injOn h1, bigSep_image_of_injOn h2]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : R ⊢ bigSep S fun _ => R := BI.bigSep_of_persistent S R
  have h2 : iprop((bigSep S fun _ => R) ∗ bigSep S Φ) ⊢ bigSep S Ψ := by
    rw [← bigSep_sep']; exact bigSep_mono h
  exact (sep_mono_left h1).trans h2

theorem big_emp {I : Type} [DecidableEq I] (S : Finset I) : (bigSep S fun _ => (iprop(emp) : sProp 𝕄)) = iprop(emp) := bigSep_emp_const S

/-! ## The tokens a device pays with -/

/-- The tokens device `c` gets at launch: its own for every cell there is. -/
def toks (c : Dev nD) : sProp 𝕄 := bigSep Finset.univ fun ci : Dev nD × Fin 18 => dutyTok ER (kcell ci) 0 c

/-- The two tokens of one transfer. -/
def sendToks (c : Dev nD) (k : Fin 4) (j : Fin 3) : sProp 𝕄 :=
  if j.val < nch c then iprop(dutyTok ER (kcell (c, iSend j k)) 0 c ∗ dutyTok ER (kcell (child c j, iRecv k)) 0 c) else iprop(emp)

abbrev sends (c : Dev nD) : Finset (Fin 4 × Fin 3) := Finset.univ.filter fun kj => kj.2.val < nch c
abbrev nbCells (c : Dev nD) (i : Fin 18) : Finset (Dev nD × Fin 18) := (nbL c).toFinset.image fun n => (n, i)
abbrev outCells (c : Dev nD) : Finset (Dev nD × Fin 18) := (sends c).image fun kj => (c, iSend kj.2 kj.1)
abbrev inCells (c : Dev nD) : Finset (Dev nD × Fin 18) := (sends c).image fun kj => (child c kj.2, iRecv kj.1)

theorem cells_apart : ∀ c : Dev nD, Disjoint (nbCells c 0) (nbCells c 1 ∪ (outCells c ∪ inCells c)) ∧ Disjoint (nbCells c 1) (outCells c ∪ inCells c)
    ∧ Disjoint (outCells c) (inCells c) := by decide +kernel
theorem out_inj : ∀ c : Dev nD, ∀ a ∈ sends c, ∀ b ∈ sends c, (c, iSend a.2 a.1) = (c, iSend b.2 b.1) → a = b := by decide +kernel
theorem in_inj : ∀ c : Dev nD, ∀ a ∈ sends c, ∀ b ∈ sends c, (child c a.2, iRecv a.1) = (child c b.2, iRecv b.1) → a = b := by decide +kernel

theorem toks_split (c : Dev nD) :
    (toks (F := F) c) ⊢ iprop((bigSep (nbL c).toFinset fun n => dutyTok ER (kcell (n, 0)) 0 c) ∗ (bigSep (nbL c).toFinset fun n => dutyTok ER (kcell (n, 1)) 0 c)
      ∗ bigSep Finset.univ fun kj : Fin 4 × Fin 3 => sendToks (F := F) c kj.1 kj.2) := by
  have hsub : nbCells c 0 ∪ (nbCells c 1 ∪ (outCells c ∪ inCells c)) ⊆ Finset.univ := Finset.subset_univ _
  have hn (i : Fin 18) : Set.InjOn (fun n : Dev nD => (n, i)) (nbL c).toFinset := fun a _ b _ h => congrArg Prod.fst h
  have ho : Set.InjOn (fun kj : Fin 4 × Fin 3 => ((c, iSend kj.2 kj.1) : Dev nD × Fin 18)) (sends c) := fun a ha b hb h => out_inj c a (Finset.mem_coe.mp ha) b (Finset.mem_coe.mp hb) h
  have hi : Set.InjOn (fun kj : Fin 4 × Fin 3 => ((child c kj.2, iRecv kj.1) : Dev nD × Fin 18)) (sends c) := fun a ha b hb h => in_inj c a (Finset.mem_coe.mp ha) b (Finset.mem_coe.mp hb) h
  have hs : (toks (F := F) c) ⊢ bigSep (nbCells c 0 ∪ (nbCells c 1 ∪ (outCells c ∪ inCells c))) fun ci : Dev nD × Fin 18 => dutyTok ER (kcell ci) 0 c := bigSep_subset hsub
  refine hs.trans ?_
  rw [bigSep_union (cells_apart c).1, bigSep_union (cells_apart c).2.1, bigSep_union (cells_apart c).2.2,
    bigSep_image_of_injOn (hn 0), bigSep_image_of_injOn (hn 1), bigSep_image_of_injOn ho, bigSep_image_of_injOn hi]
  show iprop((bigSep (nbL c).toFinset fun n => dutyTok ER (kcell (n, 0)) 0 c) ∗ (bigSep (nbL c).toFinset fun n => dutyTok ER (kcell (n, 1)) 0 c)
    ∗ (bigSep (sends c) fun kj => dutyTok ER (kcell (c, iSend kj.2 kj.1)) 0 c) ∗ bigSep (sends c) fun kj => dutyTok ER (kcell (child c kj.2, iRecv kj.1)) 0 c) ⊢ _
  rw [← bigSep_sep', bigSep_filter]
  exact BI.Entails.refl _

/-- A handshake's tokens, in the order the kernel signals. -/
theorem hs_intro (c : Dev nD) (i : Fin 18) : ∀ l : List (Dev nD), l.Nodup →
    iprop((bigSep l.toFinset fun n => dutyTok ER (kcell (n, i)) 0 c) ∗ bigSep l.toFinset fun n => pay m n i c) ⊢ hsToks m c i l
  | [], _ => by unfold hsToks; iintro -; iempintro
  | n :: l, h => by
    have hn : n ∉ l.toFinset := fun hm => (List.nodup_cons.mp h).1 (List.mem_toFinset.mp hm)
    have ih := hs_intro c i l (List.nodup_cons.mp h).2
    rw [List.toFinset_cons, bigSep_insert hn, bigSep_insert hn]
    show iprop((dutyTok ER (kcell (n, i)) 0 c ∗ bigSep l.toFinset fun n => dutyTok ER (kcell (n, i)) 0 c) ∗ (pay m n i c ∗ bigSep l.toFinset fun n => pay m n i c)) ⊢ _
    unfold hsToks
    iintro ⟨⟨Ht, Hts⟩, Hp, Hps⟩
    isplitl [Ht Hp]
    · isplitl [Ht] <;> iassumption
    iapply ih
    isplitl [Hts] <;> iassumption

theorem nb_nodup : ∀ c : Dev nD, (nbL c).Nodup := by decide
theorem par_nb : ∀ c : Dev nD, c ≠ 0 → par c ∈ (nbL c).toFinset := by decide

/-- What a device hands over at the entry: its chunk buffer, to its parent. -/
theorem pays_entry (c : Dev nD) : (if c = 0 then iprop(emp) else kvAny (F := F) c) ⊢ bigSep (nbL c).toFinset fun n => pay m n 0 c := by
  have he (n : Dev nD) (h : ¬(c ≠ 0 ∧ par c = n)) : pay m n 0 c = iprop(emp) := by
    unfold pay; rw [if_pos (show (0 : Fin 18).val = 0 from rfl), if_neg h]
  by_cases hc : c = 0
  · rw [if_pos hc, bigSep_congr (fun n _ => he n (fun h => h.1 hc)), big_emp]
  · rw [if_neg hc, ← Finset.insert_erase (par_nb c hc), bigSep_insert (Finset.notMem_erase _ _),
      bigSep_congr (s := (nbL c).toFinset.erase (par c)) (fun n hn => he n (fun h => Finset.ne_of_mem_erase hn h.2.symm)), big_emp]
    have hp : pay m (par c) 0 c = kvAny (F := F) c := by
      unfold pay; rw [if_pos (show (0 : Fin 18).val = 0 from rfl), if_pos ⟨hc, rfl⟩]
    rw [hp]
    show _ ⊢ iprop(kvAny (F := F) c ∗ emp)
    iintro H
    isplitl [H]; · iexact H
    iempintro

theorem pays_exit (c : Dev nD) : (iprop(emp) : sProp 𝕄) ⊢ bigSep (nbL c).toFinset fun n => pay m n 1 c := by
  have he (n : Dev nD) : pay m n 1 c = iprop(emp) := by
    unfold pay; rw [if_neg (show ¬ (1 : Fin 18).val = 0 by decide), if_pos (show (1 : Fin 18).val = 1 from rfl)]
  rw [bigSep_congr (fun n _ => he n), big_emp]

/-! ## What a device starts from -/

/-- The credit a device is launched with at its cell `i`. -/
def tot (c : Dev nD) (i : Fin 18) : ℕ := if i.val < 2 then (dut c i).card else if i.val < 6 then (if c = 0 then 0 else N) else 0

/-- A device at its body's start: what everybody knows, its positions, its tokens, its credit. -/
def start (c : Dev nD) : sProp 𝕄 :=
  iprop(Rec m ∗ (bigSep Finset.univ fun i : Fin 18 => atPos ER (kcell (c, i)) 0 ∅ 0) ∗ toks (F := F) c
    ∗ bigSep Finset.univ fun i : Fin 18 => cred (tallyAt (kcell (c, i)) () (tot c i)))

/-- A cell nobody pays is closed at once. -/
theorem close_unused (ci : Dev nD × Fin 18) (h : dut ci.1 ci.2 = ∅) :
    iprop(Rec m ∗ atPos ER (kcell ci) 0 ∅ 0) ⊢ iprop(|={Set.univ}=> semVal (kcell ci) 0) := by
  unfold Rec
  iintro ⟨⟨⟨%K, #HK⟩, -⟩, Hat⟩
  iapply (Rounds.cell_close ER (treeRd m) (Set.mem_univ (K ci)) (fun h => h) (R := 0) (duties_unused m ci h))
  isplitr [Hat]
  · iapply (inv_at m K ci); iexact HK
  iexact Hat

theorem pre_piece (c : Dev nD) (k : Fin 4) (j : Fin 3) :
    iprop(Rec m ∗ (atPos ER (kcell (c, iSend j k)) 0 ∅ 0 ∗ sendToks (F := F) c k j)) ⊢ iprop(|={Set.univ}=> prePiece (F := F) c k j) := by
  unfold sendToks prePiece
  by_cases hj : j.val < nch c
  · rw [if_pos hj, if_pos hj]
    iintro ⟨-, Hat, H1, H2⟩
    imodintro
    isplitl [H1]; · iexact H1
    isplitl [H2] <;> iassumption
  · rw [if_neg hj, if_neg hj]
    iintro ⟨HR, Hat, -⟩
    iapply (close_unused m (c, iSend j k) (dut_send_unused c j k hj))
    isplitl [HR] <;> iassumption

/-- The root's chunk, before the others have theirs. -/
def rootChunk (c : Dev nD) (k : Fin 4) : sProp 𝕄 := if c = 0 then iprop(∃ f, chPts (F := F) c k fullShare f) else iprop(emp)

theorem keep_piece (c : Dev nD) (k : Fin 4) :
    iprop(Rec m ∗ ((atPos ER (kcell (c, iRecv k)) 0 ∅ 0 ∗ cred (tallyAt (kcell (c, iRecv k)) () (tot c (iRecv k)))) ∗ rootChunk (F := F) c k))
      ⊢ iprop(|={Set.univ}=> keepPiece m c k 0) := by
  have e : keepPiece m c k 0 = if c = 0 then iprop(semVal (kcell (c, iRecv k)) 0 ∗ ∃ f, chPts c k fullShare f)
      else iprop(atPos ER (kcell (c, iRecv k)) 0 ∅ 0 ∗ cred (tallyAt (kcell (c, iRecv k)) () N)) := rfl
  rw [e]
  unfold rootChunk
  by_cases hc : c = 0
  · subst hc
    rw [if_pos rfl, if_pos rfl]
    iintro ⟨HR, ⟨Hat, -⟩, Hf⟩
    imod (close_unused m (0, iRecv k) (dut_recv_root k)) $$ [HR Hat] with Hz
    · isplitl [HR] <;> iassumption
    imodintro
    isplitl [Hz] <;> iassumption
  · have ht : tot c (iRecv k) = N := by
      unfold tot
      rw [if_neg (by have : (iRecv k).val = 2 + k.val := rfl; omega), if_pos (by have : (iRecv k).val = 2 + k.val := rfl; omega), if_neg hc]
    rw [if_neg hc, if_neg hc, ht]
    iintro ⟨-, ⟨Hat, Hc⟩, -⟩
    imodintro
    isplitl [Hat] <;> iassumption

/-- A device's chunk buffer goes to its parent, but the root's stays. -/
theorem kv_deal (c : Dev nD) (f : (cc0_scratch0 : Ref sig .tc).ty.Contents (Elt F)) :
    (pts (F := F) c cc0_scratch0 f) ⊢ iprop((bigSep Finset.univ fun k : Fin 4 => rootChunk (F := F) c k) ∗ if c = 0 then iprop(emp) else kvAny (F := F) c) := by
  refine (kv_split c f).trans ?_
  unfold rootChunk
  by_cases hc : c = 0
  · rw [if_pos hc, bigSep_congr (fun k _ => if_pos hc)]
    unfold kvAny
    iintro H
    isplitl [H]; · iexact H
    iempintro
  · rw [if_neg hc, bigSep_congr (fun k _ => if_neg hc), big_emp]
    iintro H
    isplitr; · iempintro
    iexact H

theorem tot_hs (c : Dev nD) (i : Fin 18) (h : i.val < 2) : tot c i = (dut c i).card := if_pos h

/-- What a device starts from and its chunk buffer make what its body takes. -/
theorem deal (c : Dev nD) (f : (cc0_scratch0 : Ref sig .tc).ty.Contents (Elt F)) (W : Waits sig Unit) :
    iprop(start m c ∗ pts (F := F) c cc0_scratch0 f ∗ owes (c : Thread nD τ) (Osum (owedL c)) W)
      ⊢ iprop(|={Set.univ}=> (Rec m ∗ Hs m c 0 (nbL c) (sendList c ++ hsList 1 c) ∗ Pre m c ∗ HsX m c)) := by
  have hp : iprop(Rec m ∗ bigSep Finset.univ fun kj : Fin 4 × Fin 3 => iprop(atPos ER (kcell (c, iSend kj.2 kj.1)) 0 ∅ 0 ∗ sendToks (F := F) c kj.1 kj.2))
      ⊢ iprop(|={Set.univ}=> bigSep Finset.univ fun kj : Fin 4 × Fin 3 => prePiece (F := F) c kj.1 kj.2) :=
    (with_persistent fun kj _ => pre_piece m c kj.1 kj.2).trans (bigSep_fupd _ _)
  have hk : iprop(Rec m ∗ bigSep Finset.univ fun k : Fin 4 => iprop((atPos ER (kcell (c, iRecv k)) 0 ∅ 0 ∗ cred (tallyAt (kcell (c, iRecv k)) () (tot c (iRecv k)))) ∗ rootChunk (F := F) c k))
      ⊢ iprop(|={Set.univ}=> bigSep Finset.univ fun k : Fin 4 => keepPiece m c k 0) :=
    (with_persistent fun k _ => keep_piece m c k).trans (bigSep_fupd _ _)
  rw [bigSep_sep'] at hp
  rw [bigSep_sep', bigSep_sep'] at hk
  unfold start
  rw [cells_split (fun i => atPos ER (kcell (c, i)) 0 ∅ 0), cells_split (fun i => cred (tallyAt (kcell (c, i)) () (tot c i))), tot_hs c 0 (by decide), tot_hs c 1 (by decide)]
  iintro ⟨⟨#HR, ⟨Ha0, Ha1, Har, Has⟩, Htk, Hc0, Hc1, Hcr, -⟩, Hkv, HO⟩
  ihave Htk := (toks_split (F := F) c) $$ Htk
  icases Htk with ⟨Ht0, Ht1, Hts⟩
  ihave Hkv := (kv_deal (F := F) c f) $$ Hkv
  icases Hkv with ⟨Hroot, Hmine⟩
  imod hp $$ [Has Hts] with Hpre
  · isplitr; · iexact HR
    isplitl [Has] <;> iassumption
  imod hk $$ [Har Hcr Hroot] with Hkeep
  · isplitr; · iexact HR
    isplitl [Har Hcr]
    · isplitl [Har] <;> iassumption
    iexact Hroot
  ihave Hpay := (pays_entry m c) $$ Hmine
  imodintro
  isplitr; · iexact HR
  isplitl [HO Ht0 Hpay Hc0 Ha0]
  · unfold Hs owesE
    isplitl [HO]; · iexists W; iexact HO
    isplitl [Ht0 Hpay]
    · iapply (hs_intro m c 0 (nbL c) (nb_nodup c))
      isplitl [Ht0] <;> iassumption
    isplitl [Hc0] <;> iassumption
  isplitl [Hpre Hkeep]
  · unfold Pre
    isplitl [Hpre] <;> iassumption
  unfold HsX
  isplitl [Ht1]
  · iapply (hs_intro m c 1 (nbL c) (nb_nodup c))
    isplitl [Ht1]; · iexact Ht1
    iapply (pays_exit m c)
    iempintro
  isplitl [Hc1] <;> iassumption

end Cert.Tree

end
-- ==== Proof.Launch.lean ====
/-
# The launch

The region's data, the body's obligation, and the run of the eight devices from the launch.
-/
module

public import proofs.«01_k».proof.Proof.Deal
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

def s₀ : MemSt nD τ sig (Elt F) := ⟨m, fun _ => 0, ρ⟩

/-- The kernel's own scoped semaphores: all its cells' but the barrier's. -/
abbrev osem : Fin 17 → SemLoc sig := fun i => csem i.succ

/-! ## The proof's data for the region -/

/-- The three scratch buffers. -/
def scratch (c : Dev nD) : sProp 𝕄 :=
  iprop((∃ f, pts (F := F) c cc0_scratch0 f) ∗ (∃ f, pts (F := F) c cc0_scratch1 f) ∗ (∃ f, pts (F := F) c cc0_scratch2 f))

def Φ₀ (c : Dev nD) : sProp 𝕄 := iprop(start m c ∗ scratch (F := F) c)
def Φ₁ (c : Dev nD) : sProp 𝕄 := iprop((bigSep Finset.univ fun i : Fin 18 => semVal (kcell (c, i)) 0) ∗ scratch (F := F) c)

def O₀ (c : Dev nD) : CellTallies nD τ sig Unit := Osum (owedL c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c | ⟨1, _⟩ => wqstg m c | ⟨2, _⟩ => kstg m c | ⟨3, _⟩ => vstg m c | ⟨4, _⟩ => wostg m c | ⟨5, _⟩ => oC m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c`, at contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_pts (c : Dev nD) (b : Ref sig .tc) (X : b.ty.Contents (Elt F)) : (stg (F := F) c b X) ⊢ pts (F := F) c b X := by
  iintro ⟨%f, %h, H⟩
  subst h
  iexact H

theorem pts_stg (c : Dev nD) (b : Ref sig .tc) (X : b.ty.Contents (Elt F)) : (pts (F := F) c b X) ⊢ stg (F := F) c b X := by
  iintro H
  iexists X
  isplitr; · (ipureintro; rfl)
  iexact H

/-- A fetched window's staging buffer holds the device's block. -/
theorem before_x (c : Dev nD) (d) : (dats m ρ 0 c).before (0 : Fin 6) t0_0 d = xstg m c := by unfold Dat.before; rw [if_pos (fetch0_0 t0_0)]; rfl
theorem before_wq (c : Dev nD) (d) : (dats m ρ 0 c).before (1 : Fin 6) t0_0 d = wqstg m c := by unfold Dat.before; rw [if_pos (fetch0_1 t0_0)]; rfl
theorem before_k (c : Dev nD) (d) : (dats m ρ 0 c).before (2 : Fin 6) t0_0 d = kstg m c := by unfold Dat.before; rw [if_pos (fetch0_2 t0_0)]; rfl
theorem before_v (c : Dev nD) (d) : (dats m ρ 0 c).before (3 : Fin 6) t0_0 d = vstg m c := by unfold Dat.before; rw [if_pos (fetch0_3 t0_0)]; rfl
theorem before_wo (c : Dev nD) (d) : (dats m ρ 0 c).before (4 : Fin 6) t0_0 d = wostg m c := by unfold Dat.before; rw [if_pos (fetch0_4 t0_0)]; rfl

theorem after_x (c : Dev nD) : (dats m ρ 0 c).after (0 : Fin 6) t0_0 = xstg m c := by dsimp only [dats]
theorem after_wq (c : Dev nD) : (dats m ρ 0 c).after (1 : Fin 6) t0_0 = wqstg m c := by dsimp only [dats]
theorem after_k (c : Dev nD) : (dats m ρ 0 c).after (2 : Fin 6) t0_0 = kstg m c := by dsimp only [dats]
theorem after_v (c : Dev nD) : (dats m ρ 0 c).after (3 : Fin 6) t0_0 = vstg m c := by dsimp only [dats]
theorem after_wo (c : Dev nD) : (dats m ρ 0 c).after (4 : Fin 6) t0_0 = wostg m c := by dsimp only [dats]
theorem after_o (c : Dev nD) : (dats m ρ 0 c).after (5 : Fin 6) t0_0 = oC m c := by dsimp only [dats]

/-! ## The body's obligation -/

def bodyPre (c : Dev nD) : sProp 𝕄 :=
  iprop(Φ₀ m c ∗ (dats m ρ 0 c).owesAt () t0_0.castSucc
    ∗ (∃ d, stg (F := F) c cc0_stg0_0 ((dats m ρ 0 c).before (0 : Fin 6) t0_0 d)) ∗ (∃ d, stg (F := F) c cc0_stg1_0 ((dats m ρ 0 c).before (1 : Fin 6) t0_0 d))
    ∗ (∃ d, stg (F := F) c cc0_stg2_0 ((dats m ρ 0 c).before (2 : Fin 6) t0_0 d)) ∗ (∃ d, stg (F := F) c cc0_stg3_0 ((dats m ρ 0 c).before (3 : Fin 6) t0_0 d))
    ∗ (∃ d, stg (F := F) c cc0_stg4_0 ((dats m ρ 0 c).before (4 : Fin 6) t0_0 d)) ∗ (∃ d, stg (F := F) c cc0_stg5_0 ((dats m ρ 0 c).before (5 : Fin 6) t0_0 d)))

def bodyPost (c : Dev nD) : sProp 𝕄 :=
  iprop(Φ₁ (F := F) c ∗ (dats m ρ 0 c).owesAt () t0_0.succ ∗ stg (F := F) c cc0_stg0_0 (xstg m c) ∗ stg (F := F) c cc0_stg1_0 (wqstg m c)
    ∗ stg (F := F) c cc0_stg2_0 (kstg m c) ∗ stg (F := F) c cc0_stg3_0 (vstg m c) ∗ stg (F := F) c cc0_stg4_0 (wostg m c) ∗ stg (F := F) c cc0_stg5_0 (oC m c))

theorem cells_zero (c : Dev nD) :
    iprop(chSems (F := F) c ∗ semVal (kcell (c, 0)) 0 ∗ semVal (kcell (c, 1)) 0) ⊢ (bigSep Finset.univ fun i : Fin 18 => semVal (kcell (c, i)) 0 : sProp 𝕄) := by
  rw [cells_split (fun i => semVal (kcell (c, i)) 0)]
  unfold chSems
  iintro ⟨⟨Hs, Hr⟩, H0, H1⟩
  isplitl [H0]; · iexact H0
  isplitl [H1]; · iexact H1
  isplitl [Hr] <;> iassumption

theorem body_exit (c : Dev nD) :
    iprop(Rec m ∗ HsDone m c 1 [] ∗ (Done (F := F) c ∗ Bf m c (qC m c) (wC m c) (oC m c) ∗ emp)) ⊢ bodyPost m ρ c := by
  unfold HsDone Done Bf bodyPost Φ₁ scratch owesE Dat.owesAt Pipeline.owesWithin
  rw [show (dats m ρ 0 c).owed t0_0.succ = Osum [] from rfl]
  iintro ⟨-, ⟨⟨%W, HO⟩, Hz1, -⟩, ⟨Hch, ⟨%f, Hkv⟩, Hz0⟩, ⟨Hx, Hwq, Hk, Hv, Hwo, Hq, Hw, Ho⟩, -⟩
  isplitl [Hch Hz0 Hz1 Hkv Hq Hw]
  · isplitl [Hch Hz0 Hz1]
    · iapply (cells_zero (F := F) c)
      isplitl [Hch]; · iexact Hch
      isplitl [Hz0] <;> iassumption
    isplitl [Hkv]; · iexists f; iexact Hkv
    isplitl [Hq]; · iexists _; iexact Hq
    iexists _; iexact Hw
  isplitl [HO]
  · iexists W
    isplitr; · ipureintro; exact fun _ _ => Or.inl trivial
    iexact HO
  isplitl [Hx]; · iapply (pts_stg (F := F) c cc0_stg0_0 (xstg m c)); iexact Hx
  isplitl [Hwq]; · iapply (pts_stg (F := F) c cc0_stg1_0 (wqstg m c)); iexact Hwq
  isplitl [Hk]; · iapply (pts_stg (F := F) c cc0_stg2_0 (kstg m c)); iexact Hk
  isplitl [Hv]; · iapply (pts_stg (F := F) c cc0_stg3_0 (vstg m c)); iexact Hv
  isplitl [Hwo]; · iapply (pts_stg (F := F) c cc0_stg4_0 (wostg m c)); iexact Hwo
  iapply (pts_stg (F := F) c cc0_stg5_0 (oC m c)); iexact Ho

theorem body_entry (c : Dev nD) : (bodyPre m ρ c) ⊢ WP c (onArgs (cc0_body (F := F))) (fun _ => bodyPost m ρ c) := by
  unfold bodyPre Φ₀ scratch
  simp only [before_x, before_wq, before_k, before_v, before_wo]
  unfold Dat.owesAt Pipeline.owesWithin
  rw [show (dats m ρ 0 c).owed t0_0.castSucc = Osum (owedL c) from rfl]
  iintro ⟨⟨Hst, ⟨%fk, Hkv⟩, ⟨%fq, Hq⟩, ⟨%fw, Hw⟩⟩, ⟨%W, %hW, HO⟩, ⟨%d0, Hx⟩, ⟨%d1, Hwq⟩, ⟨%d2, Hk⟩, ⟨%d3, Hv⟩, ⟨%d4, Hwo⟩, ⟨%d5, %fo, %ho, Ho⟩⟩
  imod (deal m c fk W) $$ [Hst Hkv HO] with ⟨HR, Hs, Hp, HX⟩
  · isplitl [Hst]; · iexact Hst
    isplitl [Hkv] <;> iassumption
  iapply (body_run m c (fq := fq) (fw := fw) (fo := fo) (body_exit m ρ c))
  isplitl [HR]; · iexact HR
  isplitl [Hs]; · iexact Hs
  isplitl [Hp]; · iexact Hp
  isplitr [HX]
  · unfold Bf
    isplitl [Hx]; · iapply (stg_pts (F := F) c cc0_stg0_0 (xstg m c)); iexact Hx
    isplitl [Hwq]; · iapply (stg_pts (F := F) c cc0_stg1_0 (wqstg m c)); iexact Hwq
    isplitl [Hk]; · iapply (stg_pts (F := F) c cc0_stg2_0 (kstg m c)); iexact Hk
    isplitl [Hv]; · iapply (stg_pts (F := F) c cc0_stg3_0 (vstg m c)); iexact Hv
    isplitl [Hwo]; · iapply (stg_pts (F := F) c cc0_stg4_0 (wostg m c)); iexact Hwo
    isplitl [Hq]; · iexact Hq
    isplitl [Hw]; · iexact Hw
    iexact Ho
  isplitl [HX]; · iexact HX
  iempintro

theorem body_row : (defs₀ (F := F)) Proc.tc 0 (t0_0, cfg0.slots t0_0) = onArgs (cc0_body (F := F)) := rfl

/-- The library's obligation for the body. -/
theorem body_obligation (c : Dev nD) : BodyObligation (dats m ρ 0 c) (defs₀ (F := F)) 𝒱₀ () Set.univ := fun t => by
  rw [fin_N0 t]
  rw [show ∀ Ψ : Fin cfg0.W → sProp 𝕄, bigSep Finset.univ Ψ = iprop(Ψ (0 : Fin 6) ∗ Ψ (1 : Fin 6) ∗ Ψ (2 : Fin 6) ∗ Ψ (3 : Fin 6) ∗ Ψ (4 : Fin 6) ∗ Ψ (5 : Fin 6)) from fun Ψ => bigSep_W0 Ψ,
    show ∀ Ψ : Fin cfg0.W → sProp 𝕄, bigSep Finset.univ Ψ = iprop(Ψ (0 : Fin 6) ∗ Ψ (1 : Fin 6) ∗ Ψ (2 : Fin 6) ∗ Ψ (3 : Fin 6) ∗ Ψ (4 : Fin 6) ∗ Ψ (5 : Fin 6)) from fun Ψ => bigSep_W0 Ψ]
  simp only [owns_whole_eq]
  rw [body_row, show (dats m ρ 0 c).Φ t0_0.castSucc = Φ₀ m c from rfl, show (dats m ρ 0 c).Φ t0_0.succ = Φ₁ (F := F) c from rfl, after_x, after_wq, after_k, after_v, after_wo, after_o]
  exact body_entry m ρ c

/-! ## Funding the cells -/

theorem ownSemFacts : Pipeline.OwnSemFacts cfg0.spec osem := by decide

theorem share_eq (c : Dev nD) (w : Fin cfg0.W) : (dats m ρ 0 c).share w = fullShare := by unfold Dat.share; split <;> rfl

def cells : Finset (GSem nD τ sig) := Finset.univ.map ⟨kcell, kcell_injective⟩

/-- Every device has a token of its own for every cell. -/
abbrev tokOf (x : Dev nD × (Dev nD × Fin 18)) : GSem nD τ sig × ℕ × Dev nD := (kcell x.2, 0, x.1)
theorem tokOf_injective : Function.Injective tokOf := fun a b h => by
  have h1 : kcell a.2 = kcell b.2 := congrArg Prod.fst h
  have h2 : a.1 = b.1 := congrArg (fun y : GSem nD τ sig × ℕ × Dev nD => y.2.2) h
  exact Prod.ext h2 (kcell_injective h1)
def allToks : Finset (GSem nD τ sig × ℕ × Dev nD) := Finset.univ.map ⟨tokOf, tokOf_injective⟩

def u₀ : UU :=
  (initOf (Pipeline.cells cfgs cellOf_inj) (Pipeline.launchToks cfgs cellOf_inj), initOf cells allToks)

/-- What the launch deals a device. -/
def G (c : Dev nD) : sProp 𝕄 :=
  iprop((bigSep Finset.univ fun i : Fin 18 => roundState ER (treeRd m) (kcell (c, i)) 0)
    ∗ (bigSep Finset.univ fun i : Fin 18 => reached ER (kcell (c, i)) 0) ∗ (bigSep Finset.univ fun i : Fin 18 => atPos ER (kcell (c, i)) 0 ∅ 0) ∗ toks (F := F) c)

/-- What a device has of it once the invariants stand. -/
def G' (c : Dev nD) : sProp 𝕄 :=
  iprop((∃ K, records m K) ∗ (bigSep Finset.univ fun i : Fin 18 => atPos ER (kcell (c, i)) 0 ∅ 0) ∗ toks (F := F) c)

theorem by_device (Ψ : GSem nD τ sig → sProp 𝕄) : bigSep cells Ψ = bigSep Finset.univ fun c : Dev nD => bigSep Finset.univ fun i : Fin 18 => Ψ (kcell (c, i)) := by
  unfold cells; rw [bigSep_map, bigSep_univ_prod]; rfl

theorem toks_by_device : (bigSep allToks fun x => (dutyTok ER x.1 x.2.1 x.2.2 : sProp 𝕄)) = bigSep Finset.univ fun c : Dev nD => toks (F := F) c := by
  unfold allToks; rw [bigSep_map, bigSep_univ_prod]; rfl

theorem fund_tree : BI.own (ER (initOf cells allToks)) ⊢ (|==> bigSep Finset.univ (G m) : sProp 𝕄) := by
  iintro H
  imod (Rounds.fund ER (treeRd m) cells allToks) $$ H with ⟨Hst, Hr, Hat, Htok⟩
  imodintro
  ihave Hst := (Entails.of_eq (by_device fun g => roundState ER (treeRd m) g 0)) $$ Hst
  ihave Hr := (Entails.of_eq (by_device fun g => reached ER g 0)) $$ Hr
  ihave Hat := (Entails.of_eq (by_device fun g => atPos ER g 0 ∅ 0)) $$ Hat
  ihave Htok := (Entails.of_eq (toks_by_device (F := F))) $$ Htok
  unfold G
  simp only [bigSep_sep']
  isplitl [Hst]; · iexact Hst
  isplitl [Hr]; · iexact Hr
  isplitl [Hat] <;> iassumption

/-! ## The semaphores -/

theorem ownSems0_eq (c : Dev nD) : (Pipeline.ownSems0 (Ix := Unit) (Name := ℕ) (U := UU) (Lvl := ℕ) (Val := Elt F) (τ := τ) osem c : sProp 𝕄)
    = bigSep Finset.univ fun i : Fin 17 => semVal (kcell (c, i.succ)) 0 := rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem first_rest (Ψ : Fin 18 → sProp 𝕄) : bigSep Finset.univ Ψ = iprop(Ψ 0 ∗ bigSep Finset.univ fun i : Fin 17 => Ψ i.succ) := by
  have hu : (Finset.univ : Finset (Fin 18)) = insert 0 (Finset.univ.map ⟨Fin.succ, Fin.succ_injective 17⟩) := by decide
  rw [hu, bigSep_insert (by decide), bigSep_map]; rfl

theorem sems_eq (c : Dev nD) :
    (bigSep Finset.univ fun i : Fin 18 => semVal (kcell (c, i)) 0 : sProp 𝕄)
      = iprop(unscopedSems0 c ∗ Pipeline.ownSems0 (Ix := Unit) (Name := ℕ) (U := UU) (Lvl := ℕ) (Val := Elt F) (τ := τ) osem c) := by
  rw [first_rest, ownSems0_eq, unscopedSems0_eq]

/-- The invariants of one device's cells. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 18 => iprop(∃ κ : ℕ, cellInv ER (treeRd m) κ (kcell (c, i))))
          ∗ (bigSep Finset.univ fun i : Fin 18 => reached ER (kcell (c, i)) 0) ∗ (bigSep Finset.univ fun i : Fin 18 => atPos ER (kcell (c, i)) 0 ∅ 0) ∗ toks (F := F) c) := by
  have h : iprop((bigSep Finset.univ fun i : Fin 18 => semVal (kcell (c, i)) 0) ∗ bigSep Finset.univ fun i : Fin 18 => roundState ER (treeRd m) (kcell (c, i)) 0)
      ⊢ (|={Set.univ}=> bigSep Finset.univ fun i => iprop(∃ κ : ℕ, cellInv ER (treeRd m) κ (kcell (c, i))) : sProp 𝕄) := by
    rw [← bigSep_sep']
    exact (bigSep_mono fun i _ => (Rounds.body_intro ER (treeRd m) (kcell (c, i))).trans inv_alloc).trans (bigSep_fupd _ _)
  rw [sems_eq] at h
  unfold G
  iintro ⟨Hos, Hus, Hst, Hr, Hat, Htok⟩
  imod h $$ [Hos Hus Hst] with Hinv
  · isplitl [Hos Hus]
    · isplitl [Hus] <;> iassumption
    iexact Hst
  imodintro
  isplitl [Hinv]; · iexact Hinv
  isplitl [Hr]; · iexact Hr
  isplitl [Hat] <;> iassumption

/-- All devices' invariants become common knowledge. -/
theorem share_out :
    (bigSep Finset.univ fun c : Dev nD => iprop((bigSep Finset.univ fun i : Fin 18 => iprop(∃ κ : ℕ, cellInv ER (treeRd m) κ (kcell (c, i))))
          ∗ (bigSep Finset.univ fun i : Fin 18 => reached ER (kcell (c, i)) 0) ∗ (bigSep Finset.univ fun i : Fin 18 => atPos ER (kcell (c, i)) 0 ∅ 0) ∗ toks (F := F) c) : sProp 𝕄)
      ⊢ bigSep Finset.univ (G' m) := by
  have hg (K : Dev nD × Fin 18 → ℕ) (c : Dev nD) :
      iprop(records m K ∗ ((bigSep Finset.univ fun i : Fin 18 => atPos ER (kcell (c, i)) 0 ∅ 0) ∗ toks (F := F) c)) ⊢ G' m c := by
    unfold G'
    iintro ⟨HK, H⟩
    isplitl [HK]; · iexists K; iexact HK
    iexact H
  have hd (K : Dev nD × Fin 18 → ℕ) := with_persistent (S := Finset.univ) (R := records m K) fun c _ => hg K c
  simp only [bigSep_sep'] at hd
  rw [bigSep_sep', bigSep_sep', bigSep_sep', ← bigSep_univ_prod (fun ci : Dev nD × Fin 18 => iprop(∃ κ : ℕ, cellInv ER (treeRd m) κ (kcell ci))),
    ← bigSep_univ_prod (fun ci : Dev nD × Fin 18 => (reached ER (kcell ci) 0 : sProp 𝕄))]
  iintro ⟨HI, #HR, Hat, Htok⟩
  ihave HK := (BI.bigSep_exists_pi Finset.univ (fun (ci : Dev nD × Fin 18) (κ : ℕ) => (cellInv ER (treeRd m) κ (kcell ci) : sProp 𝕄))) $$ HI
  icases HK with ⟨%K, #HI⟩
  iapply (hd K)
  isplitr
  · unfold records
    isplitl; · iexact HI
    iexact HR
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (share_out m))

/-! ## The credit -/

theorem Osum_count (ci : Dev nD × Fin 18) : ∀ l : List (Dev nD × Fin 18), Osum l (kcell ci) () = l.count ci * amt ci.2
  | [] => by rw [List.count_nil, Nat.zero_mul]; rfl
  | ci' :: l => by
    unfold Osum
    rw [Pi.add_apply, Finsupp.add_apply, tallyAt_apply, Osum_count ci l, List.count_cons]
    by_cases h : ci' = ci
    · subst h; rw [if_pos ⟨rfl, rfl⟩, beq_self_eq_true, if_pos rfl, Nat.add_mul, Nat.one_mul]
    · rw [if_neg (fun ⟨h1, _⟩ => h (kcell_injective h1).symm), beq_false_of_ne h, if_neg Bool.false_ne_true]; rfl

/-- How many payments all devices together owe a cell. -/
theorem owed_count : ∀ ci : Dev nD × Fin 18, (∑ d : Dev nD, (owedL d).count ci) = if ci.2.val < 2 then (dut ci.1 ci.2).card else if ci.2.val < 6 then (if ci.1 = 0 then 0 else 1) else 0 := by
  decide +kernel

theorem launch_credit (c : Dev nD) (i : Fin 18) :
    tallyOn (kcell (c, i)) (launchCredit (Pipeline.owing O₀) 0 (kcell (c, i))) = (tallyAt (kcell (c, i)) () (tot c i) : CellTallies nD τ sig Unit) := by
  unfold tallyAt; refine congrArg _ (Finsupp.ext fun u => ?_); cases u
  rw [Pipeline.launchCredit_owing, Finsupp.single_eq_same]
  unfold O₀
  rw [Finset.sum_congr rfl fun d _ => Osum_count (c, i) (owedL d), ← Finset.sum_mul, owed_count]
  unfold tot amt
  dsimp only
  split
  · rw [Nat.mul_one]
  · split
    · split
      · rw [Nat.zero_mul]
      · rw [Nat.one_mul]
    · rw [Nat.zero_mul]

theorem creds (c : Dev nD) :
    (Pipeline.launchCred O₀ c : sProp 𝕄) ⊢ bigSep Finset.univ fun i : Fin 18 => cred (tallyAt (kcell (c, i)) () (tot c i)) := by
  have hs : (Finset.univ.image csem : Finset (SemLoc sig)) ⊆ Finset.univ := Finset.subset_univ _
  have hinj : Set.InjOn csem (Finset.univ : Finset (Fin 18)) := csem_injective.injOn
  unfold Pipeline.launchCred
  have h1 : (bigSep Finset.univ fun sm : SemLoc sig => cred (tallyOn ((c : Thread nD τ), sm) (launchCredit (Pipeline.owing O₀) 0 ((c : Thread nD τ), sm))) : sProp 𝕄)
      ⊢ bigSep (Finset.univ.image csem) fun sm : SemLoc sig => cred (tallyOn ((c : Thread nD τ), sm) (launchCredit (Pipeline.owing O₀) 0 ((c : Thread nD τ), sm))) := bigSep_subset hs
  refine h1.trans (Entails.of_eq ?_)
  rw [bigSep_image_of_injOn hinj]
  exact bigSep_congr fun i _ => congrArg cred (launch_credit c i)

/-! ## The region's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' Rec
  iintro ⟨-, Hlev, Hcr, -, HK, Hat, Htok⟩
  ihave Hc := (creds (F := F) c) $$ Hcr
  imodintro
  isplitl
  · isplitl [HK Hlev]
    · isplitl [HK] <;> iassumption
    isplitl [Hat]; · iexact Hat
    isplitl [Htok] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [sems_eq]
  iintro ⟨⟨Hu, Ho⟩, Hr⟩
  isplitl [Hu]; · iexact Hu
  isplitl [Ho] <;> iassumption

/-- A staging semaphore is no cell. -/
theorem stage_not_cell (w : Fin 6) (s : Fin (cfg0.win w).nbuf) : ∀ i : Fin 18, csem i ≠ .dma ((cfg0.win w).sem s) := by
  revert w s; decide

theorem lvl_pos : ∀ c : Dev nD, ∀ ci ∈ owedL c, 0 < lvl ci := by decide +kernel

theorem waits (c : Dev nD) : (levAts L lv : sProp 𝕄) ⊢ Pipeline.cellsWaits cfgs (dats m ρ) () 0 c :=
  Pipeline.cellsWaits_intro cfgs (dats m ρ) () 0 c fun w s t => by
    have hz : lv ((c : Thread nD τ), .dma ((cfg0.win w).sem s)) () = 0 := by
      unfold lv
      rw [dec_none fun ci h => stage_not_cell w s ci.2 (congrArg Prod.snd h)]
    have hm (l : List (Dev nD × Fin 18)) (hl : ∀ ci ∈ l, 0 < lvl ci) : (levAts L lv : sProp 𝕄) ⊢ MayWait (c : Thread nD τ) (.dma ((cfg0.win w).sem s)) () (Osum l) :=
      mayWait_of c _ l fun ci h => by rw [hz]; exact hl ci h
    rcases t with ⟨_ | _, ht⟩
    · exact hm (owedL c) (lvl_pos c)
    · exact hm [] (fun ci h => absurd h (List.not_mem_nil))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every weakly fair execution of the eight devices ends: the
    windows' arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_tree m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays end with -/

theorem final_in (c : Dev nD) (w : Fin cfg0.W) (h : (cfg0.win w).isOut = false) : finalA m ρ c w = m ((cfg0.win w).arr.view.loc (c : Thread nD τ)) :=
  (dats m ρ 0 c).arrAt_in w h _

end Cert.Tree

end
-- ==== Proof.Frames.lean ====
/- The frames: every program ends with its arguments unchanged and its counters at zero. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Tree

open Idealize.ShloMosaic Idealize.SL.Sem

attribute [local instance] Cert.Kernel.Gen.facts Cert.KernelIdeal.Gen.facts

/-- The five arguments of the kernel, at every device, are what they were. -/
theorem args_kept {F : FTy → Type} [FloatOps F] [Named F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F)) (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c 0).trans (final_in m ρ c 0 rfl), (h c 1).trans (final_in m ρ c 1 rfl), (h c 2).trans (final_in m ρ c 2 rfl),
    (h c 3).trans (final_in m ρ c 3 rfl), (h c 4).trans (final_in m ρ c 4 rfl)⟩

theorem frame_ideal : Cert.quiescent_KernelIdeal (hKernelIdeal := Cert.KernelIdeal.Gen.facts) := fun m ρ _ =>
  (θ_run Cert.KernelIdeal.defs _ _).mono (fun r h => ⟨args_kept m ρ r h.1, h.2⟩) (run_main (F := Ideal) m ρ)

/-- A named constant at the machine's floats is the literal it replaced. -/
instance bitsNamed : Named Bits := ⟨fun _ _ φ bits => FloatOps.ofBits φ bits⟩

/-- At the machine's floats the kernel's bodies are the idealized kernel's. -/
theorem body_eq : @Cert.Kernel.cc0_body Bits _ Cert.Kernel.Gen.facts = @Cert.KernelIdeal.cc0_body Bits _ _ Cert.KernelIdeal.Gen.facts := by rfl

/-- The two body tables agree, label by label. -/
theorem table_eq : @Cert.Kernel.defs₀ Bits _ Cert.Kernel.Gen.facts = @Cert.KernelIdeal.defs₀ Bits _ _ Cert.KernelIdeal.Gen.facts := by
  funext p l a
  rcases p with _ | _ | _
  · rcases l with ⟨_ | n, h⟩
    · obtain ⟨t, s⟩ := a
      show Cert.Kernel.cc0_body _ _ _ _ _ _ _ _ _ _ _ _ _ _ _ _ _ _ _ _ _ = _
      rfl
    · exact absurd h (by omega)
  · rfl
  · rfl

/-- And so do the tables with the launch's own labels. -/
theorem defs_eq : @Cert.Kernel.defs Bits _ Cert.Kernel.Gen.facts = @Cert.KernelIdeal.defs Bits _ _ Cert.KernelIdeal.Gen.facts := by
  show Pipeline.defs Cert.Kernel.pcfgs (Cert.Kernel.defs₀) = _
  rw [table_eq]
  rfl

theorem frame_kernel : Cert.quiescent_Kernel (hKernel := Cert.Kernel.Gen.facts) := fun m ρ _ => by
  rw [defs_eq]
  exact (θ_run Cert.KernelIdeal.defs _ _).mono (fun r h => ⟨args_kept m ρ r h.1, h.2⟩) (run_main (F := Bits) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The mask's literal is named: at the reals it is the bottom. -/
theorem preserved : Cert.preserves_Kernel_KernelIdeal := IdealRules.named_const.statement Cert.KernelIdeal.κ "mask" .f32 0xCE6E6B28#32 ⊥ rfl

end Cert.Tree

end
-- ==== Proof.Soft.lean ====
/-
# Softmax over the extended reals

Weights of scores that are real or masked, with and without the maximum taken off first.
-/
module

public import Idealize.ShloMosaic.PureOps.Ideal
public import Mathlib.Data.EReal.Operations
public import Mathlib.Analysis.SpecialFunctions.Exp

@[expose] public section

noncomputable section

namespace Cert.Tree

open Idealize.ShloMosaic

/-- A finite sum of reals is the real sum. -/
theorem coe_total {ι : Type} (s : Finset ι) (f : ι → ℝ) : ∑ k ∈ s, (f k : EReal) = ((∑ k ∈ s, f k : ℝ) : EReal) := by
  classical
  induction s using Finset.induction_on with
  | empty => rfl
  | insert a s ha ih => rw [Finset.sum_insert ha, Finset.sum_insert ha, ih, EReal.coe_add]

section Scores

variable {ι : Type} [Fintype ι]

/-- A score: real where the mask lets it through, else the bottom. -/
def sc (P : ι → Prop) [DecidablePred P] (r : ι → ℝ) (k : ι) : EReal := if P k then (r k : EReal) else ⊥

/-- Its exponential, as a real. -/
def ex (P : ι → Prop) [DecidablePred P] (r : ι → ℝ) (k : ι) : ℝ := if P k then Real.exp (r k) else 0

/-- Its weight, as a real. -/
def wgt (P : ι → Prop) [DecidablePred P] (r : ι → ℝ) (k : ι) : ℝ := ex P r k * (∑ l, ex P r l)⁻¹

theorem exp_sc (P : ι → Prop) [DecidablePred P] (r : ι → ℝ) (k : ι) : Ideal.exp (sc P r k) = (ex P r k : EReal) := by
  unfold sc ex
  by_cases h : P k
  · rw [if_pos h, if_pos h]; rfl
  · rw [if_neg h, if_neg h]; rfl

theorem exp_sc_sub (P : ι → Prop) [DecidablePred P] (r : ι → ℝ) (M : ℝ) (k : ι) :
    Ideal.exp (sc P r k - (M : EReal)) = ((ex P r k * Real.exp (-M) : ℝ) : EReal) := by
  unfold sc ex
  by_cases h : P k
  · rw [if_pos h, if_pos h, ← EReal.coe_sub, ← Real.exp_add, ← sub_eq_add_neg]; rfl
  · rw [if_neg h, if_neg h, zero_mul, sub_eq_add_neg, EReal.bot_add]; rfl

theorem ex_pos (P : ι → Prop) [DecidablePred P] (r : ι → ℝ) (h : ∃ k, P k) : 0 < ∑ l, ex P r l := by
  obtain ⟨k, hk⟩ := h
  refine Finset.sum_pos' (fun l _ => ?_) ⟨k, Finset.mem_univ k, ?_⟩
  · unfold ex; by_cases hl : P l
    · rw [if_pos hl]; exact (Real.exp_pos _).le
    · rw [if_neg hl]
  · unfold ex; rw [if_pos hk]; exact Real.exp_pos _

/-- The greatest score is real. -/
theorem top_real (P : ι → Prop) [DecidablePred P] (r : ι → ℝ) (h : ∃ k, P k) :
    ∃ M : ℝ, Finset.univ.fold max (⊥ : EReal) (sc P r) = (M : EReal) := by
  obtain ⟨k, hk⟩ := h
  have hlt : Finset.univ.fold max (⊥ : EReal) (sc P r) < ⊤ := by
    rw [Finset.fold_max_lt]
    refine ⟨bot_lt_top, fun l _ => ?_⟩
    unfold sc
    by_cases hl : P l
    · rw [if_pos hl]; exact EReal.coe_lt_top _
    · rw [if_neg hl]; exact bot_lt_top
  have hgt : ((r k : ℝ) : EReal) ≤ Finset.univ.fold max (⊥ : EReal) (sc P r) := by
    rw [Finset.le_fold_max]
    refine .inr ⟨k, Finset.mem_univ k, ?_⟩
    unfold sc; rw [if_pos hk]
  exact ⟨_, (EReal.coe_toReal hlt.ne (ne_bot_of_le_ne_bot (EReal.coe_ne_bot _) hgt)).symm⟩

theorem div_real (a : ℝ) {b : ℝ} (h : b ≠ 0) : Ideal.div (a : EReal) (b : EReal) = ((a * b⁻¹ : ℝ) : EReal) := by
  unfold Ideal.div
  rw [if_neg (by exact_mod_cast h), ← EReal.coe_inv, ← EReal.coe_mul]

/-- The weight as a product with the sum's reciprocal. -/
theorem weight_plain (P : ι → Prop) [DecidablePred P] (r : ι → ℝ) (h : ∃ k, P k) (k : ι) :
    Ideal.exp (sc P r k) * Ideal.div 1 (∑ l, Ideal.exp (sc P r l)) = (wgt P r k : EReal) := by
  simp only [exp_sc]
  rw [coe_total, ← EReal.coe_one, div_real 1 (ex_pos P r h).ne', ← EReal.coe_mul, one_mul]
  rfl

/-- The weight with the greatest score taken off first, as a quotient. -/
theorem weight_shifted (P : ι → Prop) [DecidablePred P] (r : ι → ℝ) (h : ∃ k, P k) (k : ι) :
    Ideal.div (Ideal.exp (sc P r k - Finset.univ.fold max (⊥ : EReal) (sc P r)))
      (∑ l, Ideal.exp (sc P r l - Finset.univ.fold max (⊥ : EReal) (sc P r))) = (wgt P r k : EReal) := by
  obtain ⟨M, hM⟩ := top_real P r h
  simp only [hM, exp_sc_sub]
  have hp := ex_pos P r h
  have he := Real.exp_pos (-M)
  rw [coe_total, ← Finset.sum_mul, div_real _ (mul_pos hp he).ne', wgt]
  congr 1
  field_simp

end Scores

/-- A sum over all keys of what vanishes past the first 256 is the sum over those. -/
theorem sum_cut {M : Type} [AddCommMonoid M] (f : Fin 2048 → M) (h : ∀ k : Fin 2048, 256 ≤ k.val → f k = 0) :
    ∑ k, f k = ∑ j : Fin 256, f (j.castLE (by decide)) := by
  refine (Fin.sum_univ_add (a := 256) (b := 1792) f).trans ?_
  rw [Finset.sum_eq_zero (s := Finset.univ) (f := fun i : Fin 1792 => f (Fin.natAdd 256 i)) fun i _ => h _ (by
    show 256 ≤ 256 + i.val; omega), add_zero]
  rfl

/-- The weights over all keys, of scores masked past the first 256, are those over the first 256. -/
theorem wgt_cut (P : Fin 2048 → Prop) [DecidablePred P] (r : Fin 2048 → ℝ) (hP : ∀ k, P k → k.val < 256) (j : Fin 256) :
    wgt P r (j.castLE (by decide)) = wgt (fun j : Fin 256 => P (j.castLE (by decide))) (fun j => r (j.castLE (by decide))) j := by
  have h0 : ∑ l, ex P r l = ∑ l : Fin 256, ex P r (l.castLE (by decide)) :=
    sum_cut _ fun k hk => if_neg fun hk' => absurd (hP k hk') (by omega)
  unfold wgt
  rw [h0]
  rfl

theorem wgt_past (P : Fin 2048 → Prop) [DecidablePred P] (r : Fin 2048 → ℝ) (hP : ∀ k, P k → k.val < 256) (k : Fin 2048) (hk : 256 ≤ k.val) :
    wgt P r k = 0 := by
  unfold wgt
  rw [show ex P r k = 0 from if_neg fun hk' => absurd (hP k hk') (by omega), zero_mul]

end Cert.Tree

end
-- ==== Proof.Payload.lean ====
/-
# The payloads at an index

What the kernel's payloads are at one index, over the reals with both infinities.
-/
module

public import proofs.«01_k».proof.Proof.Compute
public import Idealize.ShloMosaic.Lib.Pointwise
public import Idealize.ShloMosaic.Lib.ValueIdx
public import Idealize.ShloMosaic.Lib.Tactic
public import Idealize.ShloMosaic.PureOps.Ideal.Laws

@[expose] public section

set_option maxRecDepth 16384

noncomputable section

namespace Cert.Tree

open Idealize.ShloMosaic Idealize.SL.Sem Cert.KernelIdeal Cert.KernelIdeal.Gen

theorem wPay_apply (mk : FVec Ideal S256x256 .f32) (q : Vec Ideal S1x256x64 .bf16) (k : Vec Ideal S1x256x1x64 .bf16) (i j : Fin 256) :
    wPay mk q k (ix4 0 0 i j) = Ideal.exp (∑ x, q (ix3 0 i x) * k (ix4 0 j 0 x) + mk (ix2 i j))
      * Ideal.div 1 (∑ l, Ideal.exp (∑ x, q (ix3 0 i x) * k (ix4 0 l 0 x) + mk (ix2 i l))) := by
  unfold wPay
  pointwise [k0_pay28]

theorem avPay_apply (w : Vec Ideal S1x1x256x256 .bf16) (v : Vec Ideal S1x256x1x64 .bf16) (i : Fin 256) (e : Fin 64) :
    avPay w v (ix2 i e) = ∑ x, w (ix4 0 0 i x) * v (ix4 0 x 0 e) := by
  unfold avPay
  pointwise [k0_pay39]

/-- Where column `n` of the four heads' contexts side by side comes from. -/
def beside (a : Fin 4 → Fin 64 → EReal) (n : Fin 256) : EReal := a ⟨n.val / 64, by omega⟩ ⟨n.val % 64, by omega⟩

theorem beside_eq (a : Fin 4 → Fin 64 → EReal) (n : Fin 256) (h : Fin 4) (e : Fin 64) (hn : n.val = 64 * h.val + e.val) : beside a n = a h e := by
  have hh : (⟨n.val / 64, by omega⟩ : Fin 4) = h := Fin.ext (by show n.val / 64 = h.val; omega)
  have he : (⟨n.val % 64, by omega⟩ : Fin 64) = e := Fin.ext (by show n.val % 64 = e.val; omega)
  unfold beside
  rw [hh, he]

theorem oPay_apply (wo : FVec Ideal S256x512 .bf16) (w : Fin 4 → Vec Ideal S1x1x256x256 .bf16) (v : Fin 4 → Vec Ideal S1x256x1x64 .bf16) (i : Fin 256) (o : Fin 512) :
    oPay wo (avPay (w 0) (v 0)) (avPay (w 1) (v 1)) (avPay (w 2) (v 2)) (w 3) (v 3) (ix3 0 i o)
      = ∑ n : Fin 256, beside (fun h e => ∑ x, w h (ix4 0 0 i x) * v h (ix4 0 x 0 e)) n * wo (ix2 n o) := by
  unfold oPay
  pointwise [k0_pay42]
  refine Finset.sum_congr rfl fun n _ => ?_
  congr 1
  have hn := n.isLt
  by_cases h0 : n.val < 64
  · rw [dif_pos h0, avPay_apply, beside_eq _ n 0 ⟨n.val, h0⟩ (by show n.val = 64 * 0 + n.val; omega)]
  rw [dif_neg h0]
  by_cases h1 : n.val - 64 < 64
  · rw [dif_pos h1, avPay_apply, beside_eq _ n 1 ⟨n.val - 64, h1⟩ (by show n.val = 64 * 1 + (n.val - 64); omega)]
  rw [dif_neg h1]
  by_cases h2 : n.val - 64 - 64 < 64
  · rw [dif_pos h2, avPay_apply, beside_eq _ n 2 ⟨n.val - 64 - 64, h2⟩ (by show n.val = 64 * 2 + (n.val - 64 - 64); omega)]
  rw [dif_neg h2, beside_eq _ n 3 ⟨n.val - 64 - 64 - 64, by omega⟩ (by show n.val = 64 * 3 + (n.val - 64 - 64 - 64); omega)]

theorem qPay_apply (x : Vec Ideal S1x256x512 .bf16) (wq : Vec Ideal S512x256 .bf16) (i : Fin 256) (n : Fin 256) :
    qPay wq x (ix3 0 i n) = (∑ d, x (ix3 0 i d) * wq (ix2 d n)) * Ideal.ofBits FTy.f32 1040187392#32 := by
  unfold qPay
  pointwise [k0_pay18, k0_pay17]

/-- The rows' block numbers as the kernel computes them: the quotient by 64, rounded down. -/
def down64 (n : BitVec 32) : BitVec 32 :=
  Scalar.select
    (IntOp.andi
      (IntOp.cmpi CmpIPredicate.ne
        (IntOp.subi (BitVec.setWidth 32 (IntOp.cmpi CmpIPredicate.sgt n 0#32)) (BitVec.setWidth 32 (IntOp.cmpi CmpIPredicate.slt n 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector n 64#32) 0#32))
    (IntOp.subi (IntOp.divsi ArithUnit.vector n 64#32) 1#32)
    (IntOp.divsi ArithUnit.vector n 64#32)

theorem down64_eq : ∀ n : Fin 256, down64 (BitVec.ofNat 32 n.val) = BitVec.ofNat 32 (n.val / 64) := by decide +kernel

theorem sle_small : ∀ a : Fin 32, ∀ b : Fin 32, IntOp.cmpi CmpIPredicate.sle (BitVec.ofNat 32 a.val) (BitVec.ofNat 32 b.val) = if a.val ≤ b.val then 1#1 else 0#1 := by
  decide +kernel

theorem select_if {α : Type} (p : Prop) [Decidable p] (a b : α) : Scalar.select (if p then 1#1 else 0#1) a b = if p then a else b := by
  by_cases h : p
  · rw [if_pos h, if_pos h]; exact if_pos rfl
  · rw [if_neg h, if_neg h]; exact if_neg (by decide)

theorem mask_apply (i j : Fin 256) :
    maskV (F := Ideal) (ix2 i j) = if j.val / 64 ≤ i.val / 64 then 0 else ⊥ := by
  unfold maskV
  pointwise [k0_pay20, k0_pay21, k0_pay22, k0_pay23, k0_pay24]
  show Scalar.select (IntOp.cmpi CmpIPredicate.sle (down64 (BitVec.ofNat 32 j.val)) (down64 (BitVec.ofNat 32 i.val))) 0 (⊥ : EReal) = _
  rw [down64_eq, down64_eq, sle_small ⟨j.val / 64, by omega⟩ ⟨i.val / 64, by omega⟩, select_if]

theorem kvPay_0 (x : Vec Ideal S1x256x4x64 .bf16) : k0_pay1 x = x ∧ k0_pay2 x = x ∧ k0_pay3 x = x ∧ k0_pay4 x = x := by
  refine ⟨?_, ?_, ?_, ?_⟩ <;> funext i <;> pointwise [k0_pay1, k0_pay2, k0_pay3, k0_pay4]

theorem woPay (x : Vec Ideal S256x512 .bf16) : k0_pay25 x = x := by
  funext i
  pointwise [k0_pay25]

end Cert.Tree

end
-- ==== Proof.Read.lean ====
/-
# What the buffers hold, at an index

Staging buffers, the chunk buffer, the queries, the weights and the output, read back at one index.
-/
module

public import proofs.«01_k».proof.Proof.Payload
public import proofs.«01_k».proof.Proof.Launch
public import Idealize.ShloMosaic.Lib.WritesUnit
public import Idealize.ShloMosaic.Lib.Pipeline.Value

@[expose] public section

set_option maxRecDepth 16384

noncomputable section

namespace Cert.Tree

open Idealize.ShloMosaic Idealize.SL.Sem Cert.KernelIdeal Cert.KernelIdeal.Gen
open Idealize.ShloMosaic.TcCoe
open Idealize.ShloMosaic.Pipeline (Dat)

variable (m : (ℓ : Loc nD τ sig) → Buf (Elt Ideal) ℓ)

/-! ## Blocks that are whole arrays -/

theorem xstg_eq (c : Dev nD) : xstg m c = m ((c : Thread nD τ).loc main_arg0) :=
  funext fun y => congrArg (m ((c : Thread nD τ).loc main_arg0)) (funext fun a => Fin.ext (by show 0 * _ + 1 * (y a).val = (y a).val; omega))
theorem wqstg_eq (c : Dev nD) : wqstg m c = m ((c : Thread nD τ).loc main_arg1) :=
  funext fun y => congrArg (m ((c : Thread nD τ).loc main_arg1)) (funext fun a => Fin.ext (by show 0 * _ + 1 * (y a).val = (y a).val; omega))
theorem kstg_eq (c : Dev nD) : kstg m c = m ((c : Thread nD τ).loc main_arg2) :=
  funext fun y => congrArg (m ((c : Thread nD τ).loc main_arg2)) (funext fun a => Fin.ext (by show 0 * _ + 1 * (y a).val = (y a).val; omega))
theorem vstg_eq (c : Dev nD) : vstg m c = m ((c : Thread nD τ).loc main_arg3) :=
  funext fun y => congrArg (m ((c : Thread nD τ).loc main_arg3)) (funext fun a => Fin.ext (by show 0 * _ + 1 * (y a).val = (y a).val; omega))
theorem wostg_eq (c : Dev nD) : wostg m c = m ((c : Thread nD τ).loc main_arg4) :=
  funext fun y => congrArg (m ((c : Thread nD τ).loc main_arg4)) (funext fun a => Fin.ext (by show 0 * _ + 1 * (y a).val = (y a).val; omega))
theorem oblk_eq (f : (main_v1 : Ref sig .tc).ty.Contents (Elt Ideal)) : (win0_5.blk (0 : Fin 1)).view.read (Elt Ideal) f = f :=
  funext fun y => congrArg f (funext fun a => Fin.ext (by show 0 * _ + 1 * (y a).val = (y a).val; omega))

/-- The result array ends as the output buffer is left. -/
theorem final_out (ρ : Dev nD → PrngReg) (c : Dev nD) : finalA m ρ c (5 : Fin 6) = oC m c := by
  have h := (dats m ρ 0 c).read_blk_arrAt_eq_flushed (5 : Fin 6) (fun t t' _ _ hne => absurd ((fin_N0 t).trans (fin_N0 t').symm) hne) cfg0.N t0_0 (by decide) (flush0_5 t0_0)
  have e := oblk_eq (finalA m ρ c (5 : Fin 6))
  refine e.symm.trans (h.trans ?_)
  funext y
  unfold Dat.flushed
  rw [after_o]

/-- A device's arrays, as functions of the index. -/
def xA (c : Dev nD) : S2x256x512.Idx → EReal := m ((c : Thread nD τ).loc main_arg0)
def wqA (c : Dev nD) : S512x256.Idx → EReal := m ((c : Thread nD τ).loc main_arg1)
def kA (c : Dev nD) : S2x256x4x64.Idx → EReal := m ((c : Thread nD τ).loc main_arg2)
def vA (c : Dev nD) : S2x256x4x64.Idx → EReal := m ((c : Thread nD τ).loc main_arg3)
def woA (c : Dev nD) : S256x512.Idx → EReal := m ((c : Thread nD τ).loc main_arg4)

/-! ## The chunks -/

theorem rkvh_idx (k h : Fin 4) (j : Fin 256) (e : Fin 64) : (rkvh k h).toLoadRect.idx (ix4 0 j 0 e) = (ix4 k j h e : S4x256x4x64.Idx) := by
  funext a
  refine Fin.ext ?_
  match a with
  | 0 => show k.val + 1 * 0 = k.val; omega
  | 1 => show 0 + 1 * j.val = j.val; omega
  | 2 => show h.val + 1 * 0 = h.val; omega
  | 3 => show 0 + 1 * e.val = e.val; omega

theorem kvh_apply (k h : Fin 4) (j : Fin 256) (e : Fin 64) : kvh m k h (ix4 0 j 0 e) = kvPay m k (ix4 0 j h e) := by
  unfold kvh
  rw [View.readAt_apply, rkvh_idx]
  refine View.read_writes_cons_unit_of_mem kvM.view (m (((0 : Dev nD) : Thread nD τ).loc cc0_scratch0)) (inb_kv k) (kvPay m k) [] (ix4 k j h e) (ix4 0 j h e) rfl fun a => ?_
  match a with
  | 0 => show k.val = k.val + 0; omega
  | 1 => show j.val = 0 + j.val; omega
  | 2 => show h.val = 0 + h.val; omega
  | 3 => show e.val = 0 + e.val; omega

theorem rb_idx (off : Fin 4 → ℕ) (inb) (b : Fin 2) (j : Fin 256) (h : Fin 4) (e : Fin 64) (ho : off = ![b.val, 0, 0, 0]) :
    (Rect.unit (s := S2x256x4x64) off S1x256x4x64.size inb).toLoadRect.idx (ix4 0 j h e) = (ix4 b j h e : S2x256x4x64.Idx) := by
  subst ho
  funext a
  refine Fin.ext ?_
  match a with
  | 0 => show b.val + 1 * 0 = b.val; omega
  | 1 => show 0 + 1 * j.val = j.val; omega
  | 2 => show 0 + 1 * h.val = h.val; omega
  | 3 => show 0 + 1 * e.val = e.val; omega

theorem chunk_0 : kvPay m 0 = kM.view.readAt (Elt Ideal) rb0.toLoadRect (kstg m 0) := by
  have h : kvPay m 0 = k0_pay1 (kM.view.readAt (Elt Ideal) rb0.toLoadRect (kstg m 0)) := rfl
  rw [h, (kvPay_0 _).1]
theorem chunk_1 : kvPay m 1 = kM.view.readAt (Elt Ideal) rb1.toLoadRect (kstg m 0) := by
  have h : kvPay m 1 = k0_pay2 (kM.view.readAt (Elt Ideal) rb1.toLoadRect (kstg m 0)) := rfl
  rw [h, (kvPay_0 _).2.1]
theorem chunk_2 : kvPay m 2 = vM.view.readAt (Elt Ideal) rb0.toLoadRect (vstg m 0) := by
  have h : kvPay m 2 = k0_pay3 (vM.view.readAt (Elt Ideal) rb0.toLoadRect (vstg m 0)) := rfl
  rw [h, (kvPay_0 _).2.2.1]
theorem chunk_3 : kvPay m 3 = vM.view.readAt (Elt Ideal) rb1.toLoadRect (vstg m 0) := by
  have h : kvPay m 3 = k0_pay4 (vM.view.readAt (Elt Ideal) rb1.toLoadRect (vstg m 0)) := rfl
  rw [h, (kvPay_0 _).2.2.2]

theorem k_read (b : Fin 2) (off : Fin 4 → ℕ) (inb) (ho : off = ![b.val, 0, 0, 0]) (j : Fin 256) (h : Fin 4) (e : Fin 64) :
    kM.view.readAt (Elt Ideal) (Rect.unit (s := S2x256x4x64) off S1x256x4x64.size inb).toLoadRect (kstg m 0) (ix4 0 j h e) = kA m 0 (ix4 b j h e) := by
  rw [View.readAt_apply, rb_idx _ _ b j h e ho, kstg_eq]; rfl

theorem v_read (b : Fin 2) (off : Fin 4 → ℕ) (inb) (ho : off = ![b.val, 0, 0, 0]) (j : Fin 256) (h : Fin 4) (e : Fin 64) :
    vM.view.readAt (Elt Ideal) (Rect.unit (s := S2x256x4x64) off S1x256x4x64.size inb).toLoadRect (vstg m 0) (ix4 0 j h e) = vA m 0 (ix4 b j h e) := by
  rw [View.readAt_apply, rb_idx _ _ b j h e ho, vstg_eq]; rfl

theorem key_apply (b : Fin 2) (h : Fin 4) (j : Fin 256) (e : Fin 64) : kvh m (b.castLE (by decide)) h (ix4 0 j 0 e) = kA m 0 (ix4 b j h e) := by
  rw [kvh_apply]
  match b with
  | 0 => exact (congrFun (chunk_0 m) _).trans (k_read m 0 _ _ rfl j h e)
  | 1 => exact (congrFun (chunk_1 m) _).trans (k_read m 1 _ _ rfl j h e)

theorem val_apply (b : Fin 2) (h : Fin 4) (j : Fin 256) (e : Fin 64) : kvh m (vk b) h (ix4 0 j 0 e) = vA m 0 (ix4 b j h e) := by
  rw [kvh_apply]
  match b with
  | 0 => exact (congrFun (chunk_2 m) _).trans (v_read m 0 _ _ rfl j h e)
  | 1 => exact (congrFun (chunk_3 m) _).trans (v_read m 1 _ _ rfl j h e)

/-- Two batches written apart: each reads back as written. -/
theorem two_apart {κ : Kind} {sp : Space} {s : Shape} {e : EltTy} {Val : EltTy → Type} (v : View sig κ sp s e) (f : v.ty.Contents Val)
    (r : Fin 2 → Rect s) (w : ∀ b, (r b).shape.Idx → Val e) (b : Fin 2) (x : (r b).shape.Idx) (hd : ∀ b', (r b).emb x ∈ (r b').set → b' = b) :
    v.read Val (v.writes Val f [⟨r 1, w 1⟩, ⟨r 0, w 0⟩]) ((r b).emb x) = w b x := by
  refine View.read_writes_of_unique v f ⟨r b, w b⟩ x _ ?_ fun q hq hin => ?_
  · match b with
    | 0 => simp
    | 1 => simp
  · simp only [List.mem_cons, List.not_mem_nil, or_false] at hq
    rcases hq with rfl | rfl <;> rw [hd _ hin]

/-! ## Queries, weights, output -/

theorem rqh_idx (b : Fin 2) (h : Fin 4) (i : Fin 256) (e : Fin 64) :
    (rqh b h).toLoadRect.idx (ix3 0 i e) = (ix3 b i ⟨64 * h.val + e.val, by omega⟩ : S2x256x256.Idx) := by
  funext a
  refine Fin.ext ?_
  match a with
  | 0 => show b.val + 1 * 0 = b.val; omega
  | 1 => show 0 + 1 * i.val = i.val; omega
  | 2 => show 64 * h.val + 1 * e.val = 64 * h.val + e.val; omega

theorem rx_idx (off : Fin 3 → ℕ) (inb) (b : Fin 2) (i : Fin 256) (d : Fin 512) (ho : off = ![b.val, 0, 0]) :
    (Rect.unit (s := S2x256x512) off S1x256x512.size inb).toLoadRect.idx (ix3 0 i d) = (ix3 b i d : S2x256x512.Idx) := by
  subst ho
  funext a
  refine Fin.ext ?_
  match a with
  | 0 => show b.val + 1 * 0 = b.val; omega
  | 1 => show 0 + 1 * i.val = i.val; omega
  | 2 => show 0 + 1 * d.val = d.val; omega

theorem wq_read (c : Dev nD) : wqM.view.readAt (Elt Ideal) rwq.toLoadRect (wqstg m c) = wqA m c := by
  funext y
  rw [View.readAt_apply, wqstg_eq]
  exact congrArg (wqA m c) (funext fun a => Fin.ext (by
    match a with
    | 0 => show 0 + 1 * (y 0).val = (y 0).val; omega
    | 1 => show 0 + 1 * (y 1).val = (y 1).val; omega))

theorem x_read (c : Dev nD) (b : Fin 2) (off : Fin 3 → ℕ) (inb) (ho : off = ![b.val, 0, 0]) (i : Fin 256) (d : Fin 512) :
    xM.view.readAt (Elt Ideal) (Rect.unit (s := S2x256x512) off S1x256x512.size inb).toLoadRect (xstg m c) (ix3 0 i d) = xA m c (ix3 b i d) := by
  rw [View.readAt_apply, rx_idx _ _ b i d ho, xstg_eq]
  rfl

abbrev rq (b : Fin 2) : Rect S2x256x256 := Rect.unit (s := S2x256x256) ![b.val, 0, 0] S1x256x256.size (by revert b; decide)
abbrev rx (b : Fin 2) : Rect S2x256x512 := Rect.unit (s := S2x256x512) ![b.val, 0, 0] S1x256x512.size (by revert b; decide)

theorem rq_idx (b : Fin 2) (i n : Fin 256) : (rq b).emb (ix3 0 i n) = (ix3 b i n : S2x256x256.Idx) := by
  funext a
  refine Fin.ext ?_
  match a with
  | 0 => show b.val + 1 * 0 = b.val; omega
  | 1 => show 0 + 1 * i.val = i.val; omega
  | 2 => show 0 + 1 * n.val = n.val; omega

theorem qC_pair (c : Dev nD) : qC m c = qM.view.writes (Elt Ideal) (m ((c : Thread nD τ).loc cc0_scratch1))
    [⟨rq 1, qPay (wqM.view.readAt (Elt Ideal) rwq.toLoadRect (wqstg m c)) (xM.view.readAt (Elt Ideal) (rx 1).toLoadRect (xstg m c))⟩,
     ⟨rq 0, qPay (wqM.view.readAt (Elt Ideal) rwq.toLoadRect (wqstg m c)) (xM.view.readAt (Elt Ideal) (rx 0).toLoadRect (xstg m c))⟩] := rfl

theorem qC_apply (c : Dev nD) (b : Fin 2) (i n : Fin 256) : qM.view.read (Elt Ideal) (qC m c) (ix3 b i n)
    = (∑ d, xA m c (ix3 b i d) * wqA m c (ix2 d n)) * Ideal.ofBits FTy.f32 1040187392#32 := by
  rw [qC_pair, ← rq_idx b i n]
  refine (two_apart (Val := Elt Ideal) qM.view _ rq (fun b => qPay (wqM.view.readAt (Elt Ideal) rwq.toLoadRect (wqstg m c)) (xM.view.readAt (Elt Ideal) (rx b).toLoadRect (xstg m c)))
    b (ix3 0 i n) fun b' hin => ?_).trans ?_
  · rw [rq_idx] at hin
    have h0 : b'.val ≤ b.val ∧ b.val < b'.val + 1 := Rect.mem_set_unit.mp (show _ ∈ (rq b').set from hin) 0
    exact Fin.ext (by omega)
  · rw [qPay_apply, wq_read]
    simp only [x_read m c b _ _ rfl]

theorem qh_apply (c : Dev nD) (b : Fin 2) (h : Fin 4) (i : Fin 256) (e : Fin 64) :
    qh m c b h (ix3 0 i e) = (∑ d, xA m c (ix3 b i d) * wqA m c (ix2 d ⟨64 * h.val + e.val, by omega⟩)) * Ideal.ofBits FTy.f32 1040187392#32 := by
  unfold qh
  rw [View.readAt_apply, rqh_idx]
  exact qC_apply m c b i _

theorem rwh_idx (b : Fin 2) (h : Fin 4) (i j : Fin 256) : (rwh b h).toLoadRect.idx (ix4 0 0 i j) = (ix4 b h i j : S2x4x256x256.Idx) := by
  funext a
  refine Fin.ext ?_
  match a with
  | 0 => show b.val + 1 * 0 = b.val; omega
  | 1 => show h.val + 1 * 0 = h.val; omega
  | 2 => show 0 + 1 * i.val = i.val; omega
  | 3 => show 0 + 1 * j.val = j.val; omega

theorem wp_mem (c : Dev nD) (b : Fin 2) (h : Fin 4) : wp m c b h ∈ wL m c := by
  unfold wL
  match b, h with
  | 0, 0 => simp
  | 0, 1 => simp
  | 0, 2 => simp
  | 0, 3 => simp
  | 1, 0 => simp
  | 1, 1 => simp
  | 1, 2 => simp
  | 1, 3 => simp

theorem wL_form (c : Dev nD) {p : View.Piece (Elt Ideal) S2x4x256x256 .bf16} (hp : p ∈ wL m c) : ∃ b h, p = wp m c b h := by
  unfold wL at hp
  simp only [List.mem_cons, List.not_mem_nil, or_false] at hp
  rcases hp with h | h | h | h | h | h | h | h <;> exact ⟨_, _, h⟩

theorem wRd_apply (c : Dev nD) (b : Fin 2) (h : Fin 4) (i j : Fin 256) : wRd m c b h (ix4 0 0 i j) = wt m c b h (ix4 0 0 i j) := by
  unfold wRd wC
  rw [View.readAt_apply]
  refine View.read_writes_of_unique wM.view _ (wp m c b h) (ix4 0 0 i j) _ (wp_mem m c b h) fun q hq hin => ?_
  obtain ⟨b', h', rfl⟩ := wL_form m c hq
  rw [show (wp m c b h).1.emb (ix4 0 0 i j) = (ix4 b h i j : S2x4x256x256.Idx) from rwh_idx b h i j] at hin
  have hm := Rect.mem_set_unit.mp (show _ ∈ (rwh b' h').set from hin)
  have e0 : b'.val ≤ b.val ∧ b.val < b'.val + 1 := hm 0
  have e1 : h'.val ≤ h.val ∧ h.val < h'.val + 1 := hm 1
  rw [show b' = b from Fin.ext (by omega), show h' = h from Fin.ext (by omega)]

theorem woV_eq (c : Dev nD) : woV m c = woA m c := by
  unfold woV
  rw [woPay]
  funext y
  rw [View.readAt_apply, wostg_eq]
  exact congrArg (woA m c) (funext fun a => Fin.ext (by
    match a with
    | 0 => show 0 + 1 * (y 0).val = (y 0).val; omega
    | 1 => show 0 + 1 * (y 1).val = (y 1).val; omega))

theorem ro_idx (b : Fin 2) (i : Fin 256) (o : Fin 512) : (ro b).emb (ix3 0 i o) = (ix3 b i o : S2x256x512.Idx) := by
  funext a
  refine Fin.ext ?_
  match a with
  | 0 => show b.val + 1 * 0 = b.val; omega
  | 1 => show 0 + 1 * i.val = i.val; omega
  | 2 => show 0 + 1 * o.val = o.val; omega

theorem oC_apply (c : Dev nD) (b : Fin 2) (i : Fin 256) (o : Fin 512) : oM.view.read (Elt Ideal) (oC m c) (ix3 b i o) = ov m c b (ix3 0 i o) := by
  rw [← ro_idx b i o]
  unfold oC
  refine two_apart (Val := Elt Ideal) oM.view _ ro (fun b => ov m c b) b (ix3 0 i o) fun b' hin => ?_
  rw [ro_idx] at hin
  have h0 : b'.val ≤ b.val ∧ b.val < b'.val + 1 := Rect.mem_set_unit.mp (show _ ∈ (ro b').set from hin) 0
  exact Fin.ext (by omega)

theorem oC_whole (c : Dev nD) (b : Fin 2) (i : Fin 256) (o : Fin 512) : oC m c (ix3 b i o) = ov m c b (ix3 0 i o) := by
  have e : (View.whole cc0_stg5_0).read (Elt Ideal) (oC m c) = oC m c := View.read_whole _ _
  exact (congrFun e (ix3 b i o)).symm.trans (oC_apply m c b i o)

/-! ## The result -/

/-- Queries, not yet scaled. -/
def qry (c : Dev nD) (b : Fin 2) (i : Fin 256) (h : Fin 4) (e : Fin 64) : EReal := ∑ d, xA m c (ix3 b i d) * wqA m c (ix2 d ⟨64 * h.val + e.val, by omega⟩)

/-- A masked score. -/
def score (c : Dev nD) (b : Fin 2) (h : Fin 4) (i j : Fin 256) : EReal :=
  ∑ e, qry m c b i h e * Ideal.ofBits FTy.f32 1040187392#32 * kA m 0 (ix4 b j h e) + if j.val / 64 ≤ i.val / 64 then 0 else ⊥

theorem wt_apply (c : Dev nD) (b : Fin 2) (h : Fin 4) (i j : Fin 256) :
    wt m c b h (ix4 0 0 i j) = Ideal.exp (score m c b h i j) * Ideal.div 1 (∑ l, Ideal.exp (score m c b h i l)) := by
  unfold wt
  rw [wPay_apply]
  simp only [qh_apply, key_apply, mask_apply]
  rfl

/-- The result array at an index. -/
theorem out_apply (ρ : Dev nD → PrngReg) (c : Dev nD) (b : Fin 2) (i : Fin 256) (o : Fin 512) :
    finalA m ρ c (5 : Fin 6) (ix3 b i o) = ∑ n : Fin 256, beside (fun h e => ∑ j, Ideal.exp (score m c b h i j) * Ideal.div 1 (∑ l, Ideal.exp (score m c b h i l))
      * vA m 0 (ix4 b j h e)) n * woA m c (ix2 n o) := by
  rw [final_out, oC_whole]
  unfold ov av
  rw [oPay_apply (w := fun h => wRd m c b h) (v := fun h => kvh m (vk b) h), woV_eq]
  simp only [wRd_apply, wt_apply, val_apply]

end Cert.Tree

end
-- ==== Proof.RefAt.lean ====
/-
# The reference at an index

The reference's result read at one index, its block numbers computed and its row test settled.
-/
module

public import proofs.«01_k».proof.Proof.Gen.ReferenceIdeal.Run
public import proofs.«01_k».proof.Proof.Payload
public import Idealize.ShloMosaic.Lib.Pointwise
public import Idealize.ShloMosaic.Lib.Tactic
public import Idealize.ShloMosaic.Lib.Tactic.CleanTypes
public import Idealize.ShloMosaic.Lib.Routing.OpsOrder
public import Idealize.ShloMosaic.PureOps.Ideal.Laws

@[expose] public section

set_option maxRecDepth 16384

noncomputable section

namespace Cert.Tree

open Idealize.ShloMosaic Idealize.SL.Sem Cert.ReferenceIdeal Cert.ReferenceIdeal.Gen

/-- The sign as the reference computes it. -/
def sgn (n : BitVec 32) : BitVec 32 := if n = 0 then 0 else if n.msb = true then -1 else 1

/-- The block numbers as the reference computes them: the quotient by 64, rounded down. -/
def hostDown (n c : BitVec 32) : BitVec 32 :=
  Scalar.select
    (IntOp.andi (IntOp.cmpi CmpIPredicate.ne (sgn n) (sgn c)) (IntOp.cmpi CmpIPredicate.ne (IntOp.remsi ArithUnit.host n c) 0#32))
    (IntOp.subi (IntOp.divsi ArithUnit.host n c) 1#32)
    (IntOp.divsi ArithUnit.host n c)

theorem hostDown_eq : ∀ n : Fin 2048, hostDown (BitVec.ofNat 32 n.val) 64#32 = BitVec.ofNat 32 (n.val / 64) := by decide +kernel

theorem rowBlock (n : Fin 256) : hostDown (BitVec.ofNat 32 n.val) 64#32 = BitVec.ofNat 32 (n.val / 64) := hostDown_eq (n.castLE (by decide))

theorem sle_blocks (k : Fin 2048) (i : Fin 256) :
    IntOp.cmpi CmpIPredicate.sle (BitVec.ofNat 32 (k.val / 64)) (BitVec.ofNat 32 (i.val / 64)) = if k.val / 64 ≤ i.val / 64 then 1#1 else 0#1 :=
  sle_small ⟨k.val / 64, by omega⟩ ⟨i.val / 64, by omega⟩

section Reads

variable (m : (ℓ : Loc nD τ sig) → Buf (Elt Ideal) ℓ) (c : Dev nD)

/-- The reference's arrays, as functions of the index. -/
def xR : S2x256x512.Idx → EReal := m (c.tc.loc main_arg0)
def wqR : S512x256.Idx → EReal := m (c.tc.loc main_arg1)
def kR : S2x2048x4x64.Idx → EReal := m (c.tc.loc main_arg2)
def vR : S2x2048x4x64.Idx → EReal := m (c.tc.loc main_arg3)
def woR : S256x512.Idx → EReal := m (c.tc.loc main_arg4)

/-- A score before the mask. -/
def rScore (b : Fin 2) (h : Fin 4) (i : Fin 256) (j : Fin 2048) : EReal :=
  (∑ e : Fin 64, (∑ d, xR m c (ix3 b i d) * wqR m c (ix2 d ⟨h.val * 64 + e.val, by omega⟩)) * kR m c (ix4 b j h e)) * Ideal.ofBits FTy.f32 1040187392#32

/-- Whether a row sees a key, and whether it sees any. -/
def sees (i : Fin 256) (j : Fin 2048) : BitVec 1 :=
  IntOp.cmpi CmpIPredicate.sle (hostDown (BitVec.ofNat 32 j.val) 64#32) (hostDown (BitVec.ofNat 32 i.val) 64#32)
def seesAny (i : Fin 256) : BitVec 1 := Finset.fold IntOp.ori (0#1) (fun j => sees i j) Finset.univ

/-- A masked score, and the greatest of a row. -/
def rMasked (b : Fin 2) (h : Fin 4) (i : Fin 256) (j : Fin 2048) : EReal := Scalar.select (sees i j) (rScore m c b h i j) (Ideal.ofBits FTy.f32 4286578688#32)
def rTop (b : Fin 2) (h : Fin 4) (i : Fin 256) : EReal := Finset.fold max (Ideal.ofBits FTy.f32 4286578688#32) (fun j => rMasked m c b h i j) Finset.univ

/-- A row's weight on a key. -/
def rWeight (b : Fin 2) (h : Fin 4) (i : Fin 256) (j : Fin 2048) : EReal :=
  Scalar.select (seesAny i)
    (Ideal.div (Ideal.exp (rMasked m c b h i j - rTop m c b h i))
      (Scalar.select (seesAny i) (∑ l, Ideal.exp (rMasked m c b h i l - rTop m c b h i)) (Ideal.ofBits FTy.f32 1065353216#32)))
    (Ideal.ofBits FTy.f32 0#32)

/-- The reference's result at an index. -/
theorem ref_apply (b : Fin 2) (i : Fin 256) (o : Fin 512) :
    (Cert.ReferenceIdeal.Value.res_main_v38 m c : (⟨S2x256x512, .f32⟩ : BufTy).Contents (Elt Ideal)) (ix3 b i o)
      = ∑ n : Fin 256, beside (fun h e => ∑ j, vR m c (ix4 b j h e) * rWeight m c b h i j) n * woR m c (ix2 n o) := by
  unfold Cert.ReferenceIdeal.Value.res_main_v38
  clean_types
  pointwise
  rfl

end Reads

end Cert.Tree

end
-- ==== Proof.Match.lean ====
/-
# The two results agree

Where the inputs behind the scores are finite, what every device leaves is what the reference leaves.
-/
module

public import proofs.«01_k».proof.Defs
public import proofs.«01_k».proof.Proof.Soft
public import proofs.«01_k».proof.Proof.Read
public import proofs.«01_k».proof.Proof.RefAt
public import proofs.«01_k».proof.Proof.Frames
public import proofs.«01_k».proof.Proof.Gen.Pre_finite_scores_KernelIdeal
public import Idealize.ShloMosaic.Lib.ReduceAll

@[expose] public section

set_option maxRecDepth 16384

noncomputable section

namespace Cert.Tree

open Idealize.ShloMosaic Idealize.SL.Sem
open Idealize.ShloMosaic.TcCoe

/-! ## The literals -/

theorem eighth : Ideal.ofBits FTy.f32 1040187392#32 = ((1 / 8 : ℝ) : EReal) := by
  simp [Ideal.ofBits, Ideal.ieee, -EReal.coe_mul]; norm_num

theorem lowest : Ideal.ofBits FTy.f32 4286578688#32 = (⊥ : EReal) := by
  show Ideal.ofBits .f32 0xFF800000#32 = ⊥
  simp [Ideal.ofBits, Ideal.ieee]

theorem highest : Ideal.ofBits FTy.bf16 0x7F80#16 = (⊤ : EReal) := by
  simp [Ideal.ofBits, Ideal.ieee]

/-! ## What the precondition says -/

theorem real_of_abs {a : EReal} (h : max a (-a) < ⊤) : a = (a.toReal : EReal) := by
  refine (EReal.coe_toReal ?_ ?_).symm
  · rintro rfl; simp at h
  · rintro rfl; simp at h

/-- An array whose every magnitude is below the top is real throughout. -/
theorem real_of_test {s : Shape} (x : FVec Ideal s .bf16) (y : FVec Ideal s .bf16) (hy : ∀ i, y i = Ideal.ofBits FTy.bf16 0x7F80#16) (i : s.Idx)
    (h : cmpf .olt (Host.absf x) y i = 1#1) : (x i : EReal) = ((x i : EReal).toReal : EReal) := by
  refine real_of_abs ?_
  have h' : Ideal.cmp .olt (max (x i : EReal) (-(x i : EReal))) (y i) = 1#1 := h
  rw [hy, highest] at h'
  by_contra hn
  simp [Ideal.cmp, hn] at h'

section Given

attribute [local instance] Cert.Pre_finite_scores_KernelIdeal.Gen.facts

open Cert.KernelIdeal

variable {m : (ℓ : Loc nD τ sig) → Buf (Elt Ideal) ℓ} (hp : Cert.Pre_KernelIdeal_finite_scores_KernelIdeal m)
include hp

theorem all_real (c : Dev nD) : (∀ i, xA m c i = ((xA m c i).toReal : EReal)) ∧ (∀ i, wqA m c i = ((wqA m c i).toReal : EReal))
    ∧ ∀ i, kA m c i = ((kA m c i).toReal : EReal) := by
  have h := congrFun (hp c) ix0
  dsimp only [Cert.Pre_finite_scores_KernelIdeal.fn] at h
  obtain ⟨h12, h3⟩ := IntOp.andi_eq_one.1 h
  obtain ⟨h1, h2⟩ := IntOp.andi_eq_one.1 h12
  exact ⟨fun i => real_of_test _ _ (fun _ => rfl) i (Host.reduce_andi_all _ _ _ _ _ h1 i),
    fun i => real_of_test _ _ (fun _ => rfl) i (Host.reduce_andi_all _ _ _ _ _ h2 i),
    fun i => real_of_test _ _ (fun _ => rfl) i (Host.reduce_andi_all _ _ _ _ _ h3 i)⟩

end Given

/-! ## Scores -/

/-- A row sees a key when the key's block is not past the row's. -/
abbrev Sees (i : Fin 256) (j : Fin 2048) : Prop := j.val / 64 ≤ i.val / 64

theorem sees_eq (i : Fin 256) (j : Fin 2048) : sees i j = if Sees i j then 1#1 else 0#1 := by
  unfold sees
  rw [hostDown_eq, rowBlock, sle_blocks]

theorem seesAny_eq (i : Fin 256) : seesAny i = 1#1 := by
  unfold seesAny
  rw [Routing.fold_ori]
  exact ⟨0, Finset.mem_univ _, (sees_eq i 0).trans (if_pos (by show 0 / 64 ≤ i.val / 64; omega))⟩

theorem sees_some (i : Fin 256) : ∃ j, Sees i j := ⟨0, by show 0 / 64 ≤ i.val / 64; omega⟩
theorem sees_low (i : Fin 256) (j : Fin 2048) (h : Sees i j) : j.val < 256 := by
  have h' : j.val / 64 ≤ i.val / 64 := h
  have := i.isLt
  omega

/-- A product of real queries and keys, scaled before or after the sum. -/
theorem scaled (q k : Fin 64 → ℝ) : ∑ e, (q e : EReal) * ((1 / 8 : ℝ) : EReal) * (k e : EReal) = (((∑ e, q e * k e) * (1 / 8) : ℝ) : EReal) := by
  simp only [← EReal.coe_mul]
  rw [coe_total, Finset.sum_mul]
  exact congrArg _ (Finset.sum_congr rfl fun e _ => by ring)

section Agree

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The real query and the real scaled score. -/
def realQry (m' : (ℓ : Loc Cert.ReferenceIdeal.nD Cert.ReferenceIdeal.τ Cert.ReferenceIdeal.sig) → Buf (Elt Ideal) ℓ) (b : Fin 2) (h : Fin 4) (i : Fin 256) (e : Fin 64) : ℝ :=
  ∑ d, (xR m' 0 (ix3 b i d)).toReal * (wqR m' 0 (ix2 d ⟨h.val * 64 + e.val, by omega⟩)).toReal
def realScore (m' : (ℓ : Loc Cert.ReferenceIdeal.nD Cert.ReferenceIdeal.τ Cert.ReferenceIdeal.sig) → Buf (Elt Ideal) ℓ) (b : Fin 2) (h : Fin 4) (i : Fin 256) (j : Fin 2048) : ℝ :=
  (∑ e, realQry m' b h i e * (kR m' 0 (ix4 b j h e)).toReal) * (1 / 8)

variable (hx : ∀ i, xR m' 0 i = ((xR m' 0 i).toReal : EReal)) (hw : ∀ i, wqR m' 0 i = ((wqR m' 0 i).toReal : EReal))
  (hk : ∀ (b : Fin 2) (j : Fin 2048) (h : Fin 4) (e : Fin 64), j.val < 256 → kR m' 0 (ix4 b j h e) = ((kR m' 0 (ix4 b j h e)).toReal : EReal))

include hx hw in
theorem query_real (b : Fin 2) (h : Fin 4) (i : Fin 256) (e : Fin 64) :
    ∑ d, xR m' 0 (ix3 b i d) * wqR m' 0 (ix2 d ⟨h.val * 64 + e.val, by omega⟩) = (realQry m' b h i e : EReal) := by
  unfold realQry
  rw [← coe_total]
  exact Finset.sum_congr rfl fun d _ => by rw [hx, hw, EReal.coe_mul, EReal.toReal_coe, EReal.toReal_coe]

include hx hw hk in
theorem rMasked_eq (b : Fin 2) (h : Fin 4) (i : Fin 256) : rMasked m' 0 b h i = sc (Sees i) (realScore m' b h i) := by
  funext j
  unfold rMasked sc
  rw [sees_eq, select_if, lowest]
  by_cases hs : Sees i j
  · rw [if_pos hs, if_pos hs]
    unfold rScore
    simp only [query_real hx hw]
    rw [eighth, Finset.sum_congr rfl fun e _ => by rw [hk b j h e (sees_low i j hs), ← EReal.coe_mul], coe_total, ← EReal.coe_mul]
    rfl
  · rw [if_neg hs, if_neg hs]

include hx hw hk in
theorem rWeight_eq (b : Fin 2) (h : Fin 4) (i : Fin 256) (j : Fin 2048) : rWeight m' 0 b h i j = (wgt (Sees i) (realScore m' b h i) j : EReal) := by
  unfold rWeight rTop
  rw [seesAny_eq, lowest]
  simp only [rMasked_eq hx hw hk]
  exact weight_shifted (Sees i) (realScore m' b h i) (sees_some i) j

variable (c : Dev Cert.KernelIdeal.nD) (ex : xA m c = xR m' 0) (ew : wqA m c = wqR m' 0) (eo : woA m c = woR m' 0)
  (ek : ∀ (b : Fin 2) (j : Fin 256) (h : Fin 4) (e : Fin 64), kA m 0 (ix4 b j h e) = kR m' 0 (ix4 b (j.castLE (by decide)) h e))
  (ev : ∀ (b : Fin 2) (j : Fin 256) (h : Fin 4) (e : Fin 64), vA m 0 (ix4 b j h e) = vR m' 0 (ix4 b (j.castLE (by decide)) h e))

include hx hw hk ex ew ek in
theorem score_eq (b : Fin 2) (h : Fin 4) (i j : Fin 256) :
    score m c b h i j = sc (fun j : Fin 256 => Sees i (j.castLE (by decide))) (fun j => realScore m' b h i (j.castLE (by decide))) j := by
  have hq : ∀ e, qry m c b i h e = (realQry m' b h i e : EReal) := fun e => by
    unfold qry
    rw [ex, ew, ← query_real hx hw b h i e]
    simp only [Nat.mul_comm]
  unfold score sc
  simp only [hq, ek, eighth]
  rw [Finset.sum_congr rfl fun e _ => by rw [hk b (j.castLE (by decide)) h e j.isLt], scaled]
  by_cases hs : j.val / 64 ≤ i.val / 64
  · rw [if_pos hs, if_pos (show Sees i (j.castLE _) from hs), add_zero]
    rfl
  · rw [if_neg hs, if_neg (show ¬Sees i (j.castLE _) from hs), EReal.add_bot]

include hx hw hk ex ew eo ek ev in
/-- Every index of a device's result is the reference's. -/
theorem result_eq (ρ : Dev Cert.KernelIdeal.nD → PrngReg) (b : Fin 2) (i : Fin 256) (o : Fin 512) :
    finalA m ρ c (5 : Fin 6) (ix3 b i o) = Cert.ReferenceIdeal.Value.res_main_v38 m' 0 (ix3 b i o) := by
  refine Eq.trans (α := EReal) (out_apply m ρ c b i o) (Eq.trans (α := EReal) ?_ (ref_apply m' 0 b i o).symm)
  rw [eo]
  refine Finset.sum_congr rfl fun n _ => ?_
  congr 2
  funext h e
  rw [sum_cut _ fun k hk' => by rw [rWeight_eq hx hw hk, wgt_past (Sees i) _ (sees_low i) k hk', EReal.coe_zero, mul_zero]]
  refine Finset.sum_congr rfl fun j _ => ?_
  rw [rWeight_eq hx hw hk, wgt_cut (Sees i) _ (sees_low i) j, ev, mul_comm]
  congr 1
  simp only [score_eq hx hw hk c ex ew ek]
  exact weight_plain _ _ ⟨0, by show 0 / 64 ≤ i.val / 64; omega⟩ j

end Agree

/-! ## The claim -/

attribute [local instance] Cert.Pre_finite_scores_KernelIdeal.Gen.facts Cert.KernelIdeal.Gen.facts Cert.ReferenceIdeal.Gen.facts

/-- Key `j` of device zero's block is key `j` of the whole array. -/
theorem block_at (v : Cert.ReferenceIdeal.S2x2048x4x64.Idx → EReal) (h) (b : Fin 2) (j : Fin 256) (k : Fin 4) (e : Fin 64) :
    Layout.block ⟨4, ![2, 256, 4, 64]⟩ ⟨4, ![2, 2048, 4, 64]⟩ 1 8 (0 : Fin 8) v h (ix4 b j k e) = v (ix4 b (j.castLE (by decide)) k e) := by
  rw [Layout.block_apply]
  refine congrArg v (funext fun a => Fin.ext ?_)
  fin_cases a <;> simp [Layout.Tiles.idx, ix4]

theorem agrees : Cert.algebraic_KernelIdeal_ReferenceIdeal_pre_finite_scores_KernelIdeal := by
  intro m g m' g' hp he
  have hr := fun c => all_real hp c
  obtain ⟨e0, e1, e2, e3, e4⟩ := he 0
  have ek : ∀ (b : Fin 2) (j : Fin 256) (h : Fin 4) (e : Fin 64), kA m 0 (ix4 b j h e) = kR m' 0 (ix4 b (j.castLE (by decide)) h e) :=
    fun b j h e => (congrFun e2 _).trans (block_at _ _ b j h e)
  have ev : ∀ (b : Fin 2) (j : Fin 256) (h : Fin 4) (e : Fin 64), vA m 0 (ix4 b j h e) = vR m' 0 (ix4 b (j.castLE (by decide)) h e) :=
    fun b j h e => (congrFun e3 _).trans (block_at _ _ b j h e)
  have hx : ∀ i, xR m' 0 i = ((xR m' 0 i).toReal : EReal) := (show xA m 0 = xR m' 0 from e0) ▸ (hr 0).1
  have hw : ∀ i, wqR m' 0 i = ((wqR m' 0 i).toReal : EReal) := (show wqA m 0 = wqR m' 0 from e1) ▸ (hr 0).2.1
  have hk : ∀ (b : Fin 2) (j : Fin 2048) (h : Fin 4) (e : Fin 64), j.val < 256 →
      kR m' 0 (ix4 b j h e) = ((kR m' 0 (ix4 b j h e)).toReal : EReal) :=
    fun b j h e hj => (ek b ⟨j.val, hj⟩ h e) ▸ (hr 0).2.2 (ix4 b ⟨j.val, hj⟩ h e)
  refine ⟨Cert.ReferenceIdeal.Value.res_main_v38 m' 0, ?_, ?_⟩
  · refine (θ_run Cert.KernelIdeal.defs _ _).mono (fun r hq c => ⟨?_, args_kept m g r hq.1 c⟩) (run_main m g)
    refine (hq.1 c 5).trans (funext fun y => ?_)
    obtain ⟨f0, f1, _, _, f4⟩ := he c
    have hy : y = ix3 (y 0) (y 1) (y 2) := by
      funext a; fin_cases a <;> rfl
    rw [hy]
    exact result_eq hx hw hk c f0 f1 f4 ek ev g (y 0) (y 1) (y 2)
  · exact (θ_run Cert.ReferenceIdeal.defs _ _).mono (fun r hq => hq 0) (Cert.ReferenceIdeal.Value.run m' g')

end Cert.Tree

end
-- ==== Proof.lean ====
/- The claims of this certificate, put together. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Match

@[expose] public section

noncomputable section

namespace Cert.Proof

theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    Cert.Tree.frame_kernel, Cert.Tree.frame_ideal, fun m g _ => Cert.Tree.frame_ideal m g trivial,
    Cert.Tree.frame_reference, fun m g _ => Cert.Tree.frame_reference m g trivial,
    Cert.Tree.preserved, Cert.Tree.agrees⟩

end Cert.Proof

end
